-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x256 : Shape := ⟨2, ![1024, 256]⟩
abbrev S6x128x1024 : Shape := ⟨3, ![6, 128, 1024]⟩
abbrev S8 : Shape := ⟨1, ![8]⟩
abbrev S_ : Shape := ⟨0, ![]⟩
abbrev S256x256 : Shape := ⟨2, ![256, 256]⟩
abbrev S1 : Shape := ⟨1, ![1]⟩
abbrev S1x128x1024 : Shape := ⟨3, ![1, 128, 1024]⟩
abbrev S128x1024 : Shape := ⟨2, ![128, 1024]⟩
abbrev S1x64x1024 : Shape := ⟨3, ![1, 64, 1024]⟩
abbrev S64x1024 : Shape := ⟨2, ![64, 1024]⟩
abbrev S128x256 : Shape := ⟨2, ![128, 256]⟩
abbrev S64x256 : Shape := ⟨2, ![64, 256]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x256, .f32⟩
  | .hbm, ⟨2, _⟩ => ⟨S1024x256, .f32⟩
  | .local _ .vmem, ⟨0, _⟩ => ⟨S256x1024, .f32⟩
  | .local _ .vmem, ⟨1, _⟩ => ⟨S1024x256, .f32⟩
  | .local _ .vmem, ⟨2, _⟩ => ⟨S1024x256, .f32⟩
  | .local _ .vmem, ⟨3, _⟩ => ⟨S256x1024, .bf16⟩
  | .local _ .vmem, ⟨4, _⟩ => ⟨S1024x256, .bf16⟩
  | .local _ .vmem, ⟨5, _⟩ => ⟨S6x128x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v53 : BitVec 32 := Scalar.muli v2 c256_i32
  let v59 : Index := Scalar.indexCast v53
  let c0_37 : Index := 0#32
  ![v59.toNat, 0]
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_42 : BitVec 32 := 1#32
  let v61 : BitVec 32 := Scalar.muli v24 c1_i32_42
  let v62 : BitVec 32 := Scalar.addi c0_i32_43 v61
  v62.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_50 : BitVec 32 := 1#32
  let v70 : BitVec 32 := Scalar.muli v13 c1_i32_50
  let v71 : BitVec 32 := Scalar.addi c0_i32_51 v70
  v71.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_58 : BitVec 32 := 1#32
  let v79 : BitVec 32 := Scalar.muli v24 c1_i32_58
  let v80 : BitVec 32 := Scalar.addi c0_i32_59 v79
  v80.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_67 : BitVec 32 := 1#32
  let v88 : BitVec 32 := Scalar.muli v13 c1_i32_67
  let v89 : BitVec 32 := Scalar.addi c0_i32_68 v88
  v89.toNat
def k0_dev7 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_86 : BitVec 32 := 1#32
  let v104 : BitVec 32 := Scalar.muli v24 c1_i32_86
  let v105 : BitVec 32 := Scalar.addi c0_i32_87 v104
  v105.toNat
def k0_dev8 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_95 : BitVec 32 := 1#32
  let v114 : BitVec 32 := Scalar.muli v24 c1_i32_95
  let v115 : BitVec 32 := Scalar.addi c0_i32_96 v114
  v115.toNat
def k0_dev9 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_112 : BitVec 32 := 1#32
  let v131 : BitVec 32 := Scalar.muli v13 c1_i32_112
  let v132 : BitVec 32 := Scalar.addi c0_i32_113 v131
  v132.toNat
def k0_dev10 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_121 : BitVec 32 := 1#32
  let v141 : BitVec 32 := Scalar.muli v13 c1_i32_121
  let v142 : BitVec 32 := Scalar.addi c0_i32_122 v141
  v142.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_127 : BitVec 32 := 256#32
  let v151 : BitVec 32 := Scalar.muli v13 c256_i32_127
  let v158 : Index := Scalar.indexCast v151
  let c0_135 : Index := 0#32
  ![v158.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32_145 : BitVec 32 := 256#32
  let v167 : BitVec 32 := Scalar.muli v13 c256_i32_145
  let c128_i32_146 : BitVec 32 := 128#32
  let v168 : BitVec 32 := Scalar.addi v167 c128_i32_146
  let v175 : Index := Scalar.indexCast v168
  let c0_153 : Index := 0#32
  ![v175.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_154 : BitVec 32 := 256#32
  let v177 : BitVec 32 := Scalar.muli v24 c256_i32_154
  let c128_i32_155 : BitVec 32 := 128#32
  let v178 : BitVec 32 := Scalar.addi v177 c128_i32_155
  let v185 : Index := Scalar.indexCast v178
  let c0_162 : Index := 0#32
  ![v185.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c256_i32_172 : BitVec 32 := 256#32
  let v194 : BitVec 32 := Scalar.muli v24 c256_i32_172
  let v201 : Index := Scalar.indexCast v194
  let c0_179 : Index := 0#32
  ![v201.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c256_i32_190 : BitVec 32 := 256#32
  let v211 : BitVec 32 := Scalar.muli v35 c256_i32_190
  let v218 : Index := Scalar.indexCast v211
  let c0_197 : Index := 0#32
  ![v218.toNat, 0]
def k0_off7 (d0 : Dev nD) (c128_i32_209 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c256_i32_208 : BitVec 32 := 256#32
  let v228 : BitVec 32 := Scalar.muli v35 c256_i32_208
  let v229 : BitVec 32 := Scalar.addi v228 c128_i32_209
  let v236 : Index := Scalar.indexCast v229
  let c0_216 : Index := 0#32
  ![v236.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c256_i32_246 : BitVec 32 := 256#32
  let v264 : BitVec 32 := Scalar.muli v35 c256_i32_246
  let c128_i32_247 : BitVec 32 := 128#32
  let v265 : BitVec 32 := Scalar.addi v264 c128_i32_247
  let c64_i32_248 : BitVec 32 := 64#32
  let v266 : BitVec 32 := Scalar.addi v265 c64_i32_248
  let v273 : Index := Scalar.indexCast v266
  let c0_256 : Index := 0#32
  ![v273.toNat, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Setup.lean ====
/-
# The exchange protocol of the kernel

Four devices on a ring. Device `c` holds rows `256 c ..` of `x` and columns `256 c ..` of `w_mat`, and makes columns
`256 c ..` of `relu (x · w_mat)`, so it needs every device's rows of `x`. Those rows travel as bf16 blocks:

* copies 0 and 1 send the two halves (128 rows each) of a device's own block to its successor's slots 0 and 1;
* copies 2 and 3 send the second and the first half to its predecessor's slots 3 and 2;
* copies 4 and 5 pass what landed in slot 0 on, in two quarters of 64 rows, to the successor's slot 4;
* copies 6 and 7 pass what landed in slot 3 on, in two quarters, to the predecessor's slot 5.

Cells of device `c`: its barrier semaphore, one send and one receive semaphore for each of the eight copies. Each has one
round (round 0).

* The barrier cell has two duties of one unit. `true` is paid by the successor and hands `c` the successor's slots 0, 1
  and 4, into which `c` copies; `false` is paid by the predecessor and hands `c` the predecessor's slots 2, 3 and 5.
* A receive cell has one duty, paid when the copy lands: the slot's window, at the contents that belong there.
* A send cell has one duty, paid when the source has been read: the share of the source that was lent.

Levels: a staging or send cell 0, the barrier 1, the receive cells of the first hop 2, of the second hop 3.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.TalkSites
public import Idealize.ShloMosaic.Lib.ValueLayout
public import Idealize.ShloMosaic.Lib.ValueIdxCoords
public import Idealize.ShloMosaic.Lib.Writes
public import Idealize.ShloMosaic.Lib.Tactic

@[expose] public section

noncomputable section

namespace Cert.RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.TalkSites (Pay tallyL addL)

variable {F : FTy → Type} [FloatOps F]

/-! ## The resource algebra: the pipeline library's rounds and the ring's -/

/-- The ring's rounds: a cell's duties are named by booleans. -/
abbrev UB : Type := URounds (GSem nD τ sig) Bool
/-- The pipeline's rounds and the ring's. -/
abbrev UU : Type := UR sig nD τ × UB

local notation "𝕄" => MT nD τ sig ℕ (Elt F) ℕ UU ℕ

/-- Where the pipeline's rounds are kept, -/
abbrev EP : Emb (UR sig nD τ) (MT nD τ sig ℕ (Elt F) ℕ UU ℕ) := embL
/-- and where the ring's are. -/
abbrev ER : Emb UB (MT nD τ sig ℕ (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The successor of a device. -/
def nxt (c : Dev nD) : Dev nD := ⟨(c.val + 1) % 4, Nat.mod_lt _ (by decide)⟩
set_option backward.proofsInPublic true in
/-- The predecessor of a device. -/
def prv (c : Dev nD) : Dev nD := ⟨(c.val + 3) % 4, Nat.mod_lt _ (by decide)⟩

/-- The predecessor of the successor, -/
theorem prv_nxt (c : Dev nD) : prv (nxt c) = c := by revert c; decide
/-- and the successor of the predecessor, is the device itself. -/
theorem nxt_prv (c : Dev nD) : nxt (prv c) = c := by revert c; decide
/-- Two steps either way lead to the same device. -/
theorem nxt_nxt (c : Dev nD) : nxt (nxt c) = prv (prv c) := by revert c; decide

/-- The ring as a permutation of the devices. -/
def ring : Dev nD ≃ Dev nD := ⟨nxt, prv, prv_nxt, nxt_prv⟩

/-- The first barrier signal goes to the predecessor, -/
theorem dev1_eq (c : Dev nD) : (⟨k0_dev1 c, k0_dev1_lt c⟩ : Dev nD) = prv c := by revert c; decide +kernel
/-- and the second to the successor. -/
theorem dev2_eq (c : Dev nD) : (⟨k0_dev2 c, k0_dev2_lt c⟩ : Dev nD) = nxt c := by revert c; decide +kernel
/-- Copy 0 goes to the successor, -/
theorem dev3_eq (c : Dev nD) : (⟨k0_dev3 c, k0_dev3_lt c⟩ : Dev nD) = nxt c := by revert c; decide +kernel
/-- copy 2 to the predecessor, -/
theorem dev4_eq (c : Dev nD) : (⟨k0_dev4 c, k0_dev4_lt c⟩ : Dev nD) = prv c := by revert c; decide +kernel
/-- copy 1 to the successor, -/
theorem dev5_eq (c : Dev nD) : (⟨k0_dev5 c, k0_dev5_lt c⟩ : Dev nD) = nxt c := by revert c; decide +kernel
/-- copy 3 to the predecessor, -/
theorem dev6_eq (c : Dev nD) : (⟨k0_dev6 c, k0_dev6_lt c⟩ : Dev nD) = prv c := by revert c; decide +kernel
/-- copies 4, -/
theorem dev7_eq (c : Dev nD) : (⟨k0_dev7 c, k0_dev7_lt c⟩ : Dev nD) = nxt c := by revert c; decide +kernel
/-- and 5 to the successor, -/
theorem dev8_eq (c : Dev nD) : (⟨k0_dev8 c, k0_dev8_lt c⟩ : Dev nD) = nxt c := by revert c; decide +kernel
/-- copies 6, -/
theorem dev9_eq (c : Dev nD) : (⟨k0_dev9 c, k0_dev9_lt c⟩ : Dev nD) = prv c := by revert c; decide +kernel
/-- and 7 to the predecessor. -/
theorem dev10_eq (c : Dev nD) : (⟨k0_dev10 c, k0_dev10_lt c⟩ : Dev nD) = prv c := by revert c; decide +kernel

/-! ## The memrefs -/

/-- The staged block of `x`, -/
abbrev xM : Memref sig .tc .vmem S256x1024 .f32 := Memref.whole cc0_stg0_0
/-- that of `w`, -/
abbrev wM : Memref sig .tc .vmem S1024x256 .f32 := Memref.whole cc0_stg1_0
/-- the result's staging buffer, -/
abbrev oM : Memref sig .tc .vmem S1024x256 .f32 := Memref.whole cc0_stg2_0
/-- the bf16 block of `x`, -/
abbrev xbM : Memref sig .tc .vmem S256x1024 .bf16 := Memref.whole cc0_scratch0
/-- that of `w`, -/
abbrev wbM : Memref sig .tc .vmem S1024x256 .bf16 := Memref.whole cc0_scratch1
/-- and the landing buffer of six slots. -/
abbrev cmM : Memref sig .tc .vmem S6x128x1024 .bf16 := Memref.whole cc0_scratch2

/-- The 128 rows from row `r` of the device's own bf16 block. -/
abbrev half (r : ℕ) (h : ∀ a, (![r, 0] : Fin 2 → ℕ) a + S128x1024.size a ≤ S256x1024.size a) : Memref sig .tc .vmem S128x1024 .bf16 :=
  xbM.slice (Rect.unit (s := S256x1024) ![r, 0] S128x1024.size h) (fun _ => rfl)
/-- Slot `k` of the landing buffer. -/
abbrev slot (k : ℕ) (h : ∀ a, (![k, 0, 0] : Fin 3 → ℕ) a + S1x128x1024.size a ≤ S6x128x1024.size a) : Memref sig .tc .vmem S128x1024 .bf16 :=
  (cmM.slice (Rect.unit (s := S6x128x1024) ![k, 0, 0] S1x128x1024.size h) (fun _ => rfl)).squeeze S128x1024 squeezes_S1x128x1024_S128x1024
/-- The 64 rows from row `r` of slot `k`. -/
abbrev qtr (k r : ℕ) (h : ∀ a, (![k, r, 0] : Fin 3 → ℕ) a + S1x64x1024.size a ≤ S6x128x1024.size a) : Memref sig .tc .vmem S64x1024 .bf16 :=
  (cmM.slice (Rect.unit (s := S6x128x1024) ![k, r, 0] S1x64x1024.size h) (fun _ => rfl)).squeeze S64x1024 squeezes_S1x64x1024_S64x1024

/-- Rows `a` to `b` of slot `k`, as places of the landing buffer. -/
def cut (k a b : ℕ) : Finset S6x128x1024.Idx := Finset.univ.filter fun i => (i 0).val = k ∧ a ≤ (i 1).val ∧ (i 1).val < b
/-- Rows `a` to `b` of the device's own block. -/
def band (a b : ℕ) : Finset S256x1024.Idx := Finset.univ.filter fun i => a ≤ (i 0).val ∧ (i 0).val < b

/-- Which places are in `cut`, -/
theorem mem_cut {k a b : ℕ} {i : S6x128x1024.Idx} : i ∈ cut k a b ↔ ((i 0).val = k ∧ a ≤ (i 1).val ∧ (i 1).val < b) := by
  unfold cut; rw [Finset.mem_filter]; exact ⟨fun h => h.2, fun h => ⟨Finset.mem_univ _, h⟩⟩
/-- and which are in `band`. -/
theorem mem_band {a b : ℕ} {i : S256x1024.Idx} : i ∈ band a b ↔ (a ≤ (i 0).val ∧ (i 0).val < b) := by
  unfold band; rw [Finset.mem_filter]; exact ⟨fun h => h.2, fun h => ⟨Finset.mem_univ _, h⟩⟩

/-- The places of a half of the own block, -/
theorem half_set (r : ℕ) (h) : (half r h).view.set = band r (r + 128) := by
  show ((View.whole cc0_scratch0).slice _).set = _
  rw [View.set_slice_whole]
  ext i
  rw [Rect.mem_set_unit, mem_band]
  constructor
  · intro hi; exact hi 0
  · intro hi a
    fin_cases a
    · exact hi
    · exact ⟨Nat.zero_le _, (Nat.zero_add 1024).symm ▸ (i 1).isLt⟩

/-- of a slot, -/
theorem slot_set (k : ℕ) (h) : (slot k h).view.set = cut k 0 128 := by
  show (((View.whole cc0_scratch2).slice _).reshape _ _).set = _
  rw [View.set_reshape, View.set_slice_whole]
  ext i
  rw [Rect.mem_set_unit, mem_cut]
  constructor
  · intro hi
    have h0 := hi 0; have h1 := hi 1
    simp at h0 h1
    exact ⟨by omega, by omega, by omega⟩
  · intro hi a
    fin_cases a
    · simp; omega
    · simp; omega
    · exact ⟨Nat.zero_le _, (Nat.zero_add 1024).symm ▸ (i 2).isLt⟩

/-- and of 64 rows of a slot. -/
theorem qtr_set (k r : ℕ) (h) : (qtr k r h).view.set = cut k r (r + 64) := by
  show (((View.whole cc0_scratch2).slice _).reshape _ _).set = _
  rw [View.set_reshape, View.set_slice_whole]
  ext i
  rw [Rect.mem_set_unit, mem_cut]
  constructor
  · intro hi
    have h0 := hi 0; have h1 := hi 1
    simp at h0 h1
    exact ⟨by omega, by omega, by omega⟩
  · intro hi a
    fin_cases a
    · simp; omega
    · simp; omega
    · exact ⟨Nat.zero_le _, (Nat.zero_add 1024).symm ▸ (i 2).isLt⟩

/-! ## The cells -/

/-- The barrier semaphore the runtime keeps for this kernel; -/
abbrev barS : Sem sig := (SemArray.scalar (sig.barrier 0 rfl) : Sems sig S_).sem
/-- the send semaphore of copy `t`, -/
abbrev sendQ (t : Fin 8) : DmaSem sig := ⟨3 + t.val, by have := t.isLt; show 3 + t.val < 19; omega⟩
/-- and its receive semaphore. -/
abbrev recvQ (t : Fin 8) : DmaSem sig := ⟨11 + t.val, by have := t.isLt; show 11 + t.val < 19; omega⟩

/-- The ring's semaphores of one device: the barrier, then the eight send and the eight receive semaphores. -/
abbrev csem (k : Fin 17) : SemLoc sig := if h : k.val = 0 then .reg barS else .dma ⟨2 + k.val, by have := k.isLt; show 2 + k.val < 19; omega⟩
/-- Cell `k` of a device. -/
abbrev kcell (ck : Dev nD × Fin 17) : GSem nD τ sig := ((ck.1 : Thread nD τ), csem ck.2)
/-- Its barrier cell, -/
abbrev barCell (c : Dev nD) : GSem nD τ sig := ((c : Thread nD τ), .reg barS)
/-- the send cell of copy `t`, -/
abbrev sendCell (c : Dev nD) (t : Fin 8) : GSem nD τ sig := ((c : Thread nD τ), .dma (sendQ t))
/-- and the receive cell of copy `t`. -/
abbrev recvCell (c : Dev nD) (t : Fin 8) : GSem nD τ sig := ((c : Thread nD τ), .dma (recvQ t))

/-- The index of a send cell, and of a receive cell, among the seventeen. -/
abbrev sIx (t : Fin 8) : Fin 17 := ⟨1 + t.val, by omega⟩
/-- The index of a receive cell among them. -/
abbrev rIx (t : Fin 8) : Fin 17 := ⟨9 + t.val, by omega⟩
/-- Cell 0 is the barrier, -/
theorem kcell_bar (c : Dev nD) : kcell (c, 0) = barCell c := rfl
/-- the next eight are the send cells, -/
theorem kcell_send (c : Dev nD) (t : Fin 8) : kcell (c, sIx t) = sendCell c t := by revert t; intro t; fin_cases t <;> rfl
/-- and the last eight the receive cells. -/
theorem kcell_recv (c : Dev nD) (t : Fin 8) : kcell (c, rIx t) = recvCell c t := by revert t; intro t; fin_cases t <;> rfl

/-- What a copy of 128 rows adds to its semaphores, and what a copy of 64 rows adds. -/
abbrev N128 : ℕ := (slot 0 inb_S6x128x1024_S1x128x1024_0_0_0).view.dmaCredit
/-- What a copy of 64 rows adds. -/
abbrev N64 : ℕ := (qtr 0 0 inb_S6x128x1024_S1x64x1024_0_0_0).view.dmaCredit
/-- A copy of 128 rows adds something, -/
theorem N128_pos : 0 < N128 := View.dmaCredit_pos _ (by decide)
/-- and so does one of 64. -/
theorem N64_pos : 0 < N64 := View.dmaCredit_pos _ (by decide)
/-- What copy `t` adds. -/
def amt (t : ℕ) : ℕ := if t < 4 then N128 else N64
/-- Every copy adds something. -/
theorem amt_pos (t : ℕ) : 0 < amt t := by unfold amt; split; exacts [N128_pos, N64_pos]

/-- A half's copy adds what 128 rows add, -/
theorem credit_half (r : ℕ) (h) : (half r h).view.dmaCredit = N128 := rfl
/-- so does a slot's, -/
theorem credit_slot (k : ℕ) (h) : (slot k h).view.dmaCredit = N128 := rfl
/-- and a quarter's adds what 64 rows add. -/
theorem credit_qtr (k r : ℕ) (h) : (qtr k r h).view.dmaCredit = N64 := rfl

/-- The device that copy `t` of device `c` goes to, -/
def dstOf (t : ℕ) (c : Dev nD) : Dev nD := match t with
  | 0 => nxt c | 1 => nxt c | 2 => prv c | 3 => prv c | 4 => nxt c | 5 => nxt c | _ => prv c
/-- and the device that copy `t` into device `c` comes from. -/
def srcOf (t : ℕ) (c : Dev nD) : Dev nD := match t with
  | 0 => prv c | 1 => prv c | 2 => nxt c | 3 => nxt c | 4 => prv c | 5 => prv c | _ => nxt c

/-! ## Contents -/

/-- The block of `x` that device `c` stages, and its block of `w_mat`. -/
def xstg (c : Dev nD) : (cc0_stg0_0 : Ref sig .tc).ty.Contents (Elt F) :=
  (win0_0.blk (0 : Fin 1)).view.read (Elt F) ((s₀ m ρ).mem ((c : Thread nD τ).loc main_arg0))
/-- The block of `w_mat` that device `c` stages. -/
def wstg (c : Dev nD) : (cc0_stg1_0 : Ref sig .tc).ty.Contents (Elt F) :=
  (win0_1.blk (0 : Fin 1)).view.read (Elt F) ((s₀ m ρ).mem ((c : Thread nD τ).loc main_arg1))

/-- The same blocks rounded to bf16, as the scratch buffers hold them. -/
def xbF (c : Dev nD) : FVec F S256x1024 .bf16 := k0_pay1 (xstg m ρ c)
/-- The same of `w_mat`. -/
def wbF (c : Dev nD) : FVec F S1024x256 .bf16 := k0_pay2 (wstg m ρ c)

/-- Whose block slot `k` of device `c` ends with, -/
def slotDev (c : Dev nD) (k : ℕ) : Dev nD := match k with
  | 0 => prv c | 1 => prv c | 2 => nxt c | 3 => nxt c | _ => prv (prv c)

/-- and what the landing buffer of device `c` holds when every copy has landed: slot `k` the rows `128 (k % 2) ..` of that
    block. -/
def commF (c : Dev nD) : S6x128x1024.Idx → F .bf16 := fun i =>
  xbF m ρ (slotDev c (i 0).val) (ix2 ⟨128 * ((i 0).val % 2) + (i 1).val, by have := (i 1).isLt; simp at this; omega⟩ (i 2))

/-- The rows `a` to `b` of slot `k` of device `c`'s landing buffer, held at share `q` with contents `f`. -/
def cPts (c : Dev nD) (k a b : ℕ) (q : PosShare TreeShare) (f : S6x128x1024.Idx → F .bf16) : sProp 𝕄 :=
  (c : Thread nD τ).loc cc0_scratch2 ↦[cut k a b]{q} (f : Buf (Elt F) ((c : Thread nD τ).loc cc0_scratch2))
/-- The rows `a` to `b` of device `c`'s bf16 block, held at share `q`. -/
def xPts (c : Dev nD) (a b : ℕ) (q : PosShare TreeShare) : sProp 𝕄 :=
  (c : Thread nD τ).loc cc0_scratch0 ↦[band a b]{q} (xbF m ρ c : Buf (Elt F) ((c : Thread nD τ).loc cc0_scratch0))

omit [FloatOps F] in
/-- Rows of the landing buffer may be kept in an invariant, -/
instance cPts_storable (c : Dev nD) (k a b q f) : BI.Storable (upEmb : UEmb _ 𝕄) (cPts (F := F) c k a b q f) := by unfold cPts; infer_instance
/-- and so may rows of the own block. -/
instance xPts_storable (c : Dev nD) (a b q) : BI.Storable (upEmb : UEmb _ 𝕄) (xPts (F := F) m ρ c a b q) := by unfold xPts; infer_instance

/-! ## The schedule -/

/-- The slots that device `d`'s predecessor copies into, and those that its successor copies into, at any contents. -/
def fwdSlots (d : Dev nD) : sProp 𝕄 :=
  iprop(∃ f, cPts d 0 0 128 fullShare f ∗ cPts d 1 0 128 fullShare f ∗ cPts d 4 0 64 fullShare f ∗ cPts d 4 64 128 fullShare f)
/-- The slots that device `d`'s successor copies into. -/
def bwdSlots (d : Dev nD) : sProp 𝕄 :=
  iprop(∃ f, cPts d 2 0 128 fullShare f ∗ cPts d 3 0 128 fullShare f ∗ cPts d 5 0 64 fullShare f ∗ cPts d 5 64 128 fullShare f)

/-- What the landing of copy `t` into device `c` hands `c`. -/
def recvPay (c : Dev nD) (t : ℕ) : sProp 𝕄 := match t with
  | 0 => cPts c 0 0 128 fullShare (commF m ρ c)
  | 1 => cPts c 1 0 128 fullShare (commF m ρ c)
  | 2 => cPts c 3 0 128 fullShare (commF m ρ c)
  | 3 => cPts c 2 0 128 fullShare (commF m ρ c)
  | 4 => cPts c 4 0 64 fullShare (commF m ρ c)
  | 5 => cPts c 4 64 128 fullShare (commF m ρ c)
  | 6 => cPts c 5 0 64 fullShare (commF m ρ c)
  | _ => cPts c 5 64 128 fullShare (commF m ρ c)
/-- What device `c` gets back when its copy `t` has read its source: a half share of a half of its own block, or a half
    share of a quarter that it passes on. -/
def sendPay (c : Dev nD) (t : ℕ) : sProp 𝕄 := match t with
  | 0 => xPts m ρ c 0 128 fullShare.left
  | 1 => xPts m ρ c 128 256 fullShare.left
  | 2 => xPts m ρ c 128 256 fullShare.right
  | 3 => xPts m ρ c 0 128 fullShare.right
  | 4 => cPts c 0 0 64 fullShare.right (commF m ρ c)
  | 5 => cPts c 0 64 128 fullShare.right (commF m ρ c)
  | 6 => cPts c 3 0 64 fullShare.right (commF m ρ c)
  | _ => cPts c 3 64 128 fullShare.right (commF m ρ c)

/-- What a landing hands over may be kept in an invariant, -/
instance recvPay_storable (c : Dev nD) (t : ℕ) : BI.Storable (upEmb : UEmb _ 𝕄) (recvPay (F := F) m ρ c t) := by
  unfold recvPay; split <;> infer_instance
/-- and so may what a finished read hands back, -/
instance sendPay_storable (c : Dev nD) (t : ℕ) : BI.Storable (upEmb : UEmb _ 𝕄) (sendPay (F := F) m ρ c t) := by
  unfold sendPay; split <;> infer_instance

/-- The duty names of a semaphore's round. -/
def dutySet (s : SemLoc sig) : Finset Bool := match s with
  | .reg _ => Finset.univ
  | .dma q => if 3 ≤ q.val then {false} else ∅
/-- The units of a duty. -/
def unitsOf (s : SemLoc sig) : ℕ := match s with
  | .reg _ => 1
  | .dma q => if q.val < 11 then amt (q.val - 3) else amt (q.val - 11)
/-- What a duty hands over. -/
def payOf (c : Dev nD) (s : SemLoc sig) (d : Bool) : sProp 𝕄 := match s with
  | .reg _ => if d then fwdSlots (nxt c) else bwdSlots (prv c)
  | .dma q => if q.val < 11 then sendPay m ρ c (q.val - 3) else recvPay m ρ c (q.val - 11)

/-- One round of every cell, as the module's head tells it. -/
def rd : Rounds.Schedule (GSem nD τ sig) Bool 𝕄 where
  duties g r := if r = 0 ∧ g.1.2 = .tc then dutySet g.2 else ∅
  unitless _ := False
  amount g _ _ := unitsOf g.2
  payload g _ d := payOf m ρ g.1.1 g.2 d
  amount_pos g _ _ _ := by
    rcases g with ⟨th, s | q⟩
    · exact Nat.one_pos
    · show 0 < ite _ _ _
      split <;> exact amt_pos _

/-- and so every payload of the schedule. -/
instance rd_payload_storable (g : GSem nD τ sig) (r : ℕ) (d : Bool) : BI.Storable (upEmb : UEmb _ 𝕄) ((rd (F := F) m ρ).payload g r d) := by
  show BI.Storable upEmb (payOf m ρ g.1.1 g.2 d)
  unfold payOf fwdSlots bwdSlots
  split
  · split <;> infer_instance
  · split <;> infer_instance

section Sched
variable (c : Dev nD) (t : Fin 8)

/-- The barrier's round has both duties, -/
theorem duties_bar : (rd (F := F) m ρ).duties (barCell c) 0 = Finset.univ := rfl
/-- a send cell's one, -/
theorem duties_send : (rd (F := F) m ρ).duties (sendCell c t) 0 = {false} := by
  unfold rd; dsimp only; rw [if_pos ⟨rfl, rfl⟩]; unfold dutySet; dsimp only; rw [if_pos (Nat.le_add_right 3 _)]
/-- a receive cell's one, -/
theorem duties_recv : (rd (F := F) m ρ).duties (recvCell c t) 0 = {false} := by
  unfold rd; dsimp only; rw [if_pos ⟨rfl, rfl⟩]; unfold dutySet; dsimp only; rw [if_pos (show 3 ≤ 11 + t.val by omega)]
/-- and no later round has any. -/
theorem duties_later (g : GSem nD τ sig) : ∀ r, 1 ≤ r → (rd (F := F) m ρ).duties g r = ∅ := fun r hr => if_neg fun h => by omega

/-- A barrier signal adds one, -/
theorem amount_bar (d : Bool) : (rd (F := F) m ρ).amount (barCell c) 0 d = 1 := rfl
/-- a finished read adds the copy's amount, -/
theorem amount_send (d : Bool) : (rd (F := F) m ρ).amount (sendCell c t) 0 d = amt t.val :=
  (if_pos (show 3 + t.val < 11 by omega)).trans (congrArg amt (Nat.add_sub_cancel_left _ _))
/-- and so does a landing. -/
theorem amount_recv (d : Bool) : (rd (F := F) m ρ).amount (recvCell c t) 0 d = amt t.val :=
  (if_neg (show ¬ 11 + t.val < 11 by omega)).trans (congrArg amt (Nat.add_sub_cancel_left _ _))

/-- The barrier's round expects two units, -/
theorem expect_bar : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
/-- a send cell's the copy's amount, -/
theorem expect_send : (rd (F := F) m ρ).expect (sendCell c t) 0 = amt t.val := by
  unfold Schedule.expect Schedule.amountOf; rw [duties_send, Finset.sum_singleton, amount_send]
/-- and so a receive cell's. -/
theorem expect_recv : (rd (F := F) m ρ).expect (recvCell c t) 0 = amt t.val := by
  unfold Schedule.expect Schedule.amountOf; rw [duties_recv, Finset.sum_singleton, amount_recv]

/-- What a barrier signal hands over, -/
theorem payload_bar (d : Bool) : (rd (F := F) m ρ).payload (barCell c) 0 d = if d then fwdSlots (nxt c) else bwdSlots (prv c) := rfl
/-- what a finished read does, -/
theorem payload_send (d : Bool) : (rd (F := F) m ρ).payload (sendCell c t) 0 d = sendPay m ρ c t.val :=
  (if_pos (show 3 + t.val < 11 by omega)).trans (congrArg (sendPay m ρ c) (Nat.add_sub_cancel_left _ _))
/-- and what a landing does. -/
theorem payload_recv (d : Bool) : (rd (F := F) m ρ).payload (recvCell c t) 0 d = recvPay m ρ c t.val :=
  (if_neg (show ¬ 11 + t.val < 11 by omega)).trans (congrArg (recvPay m ρ c) (Nat.add_sub_cancel_left _ _))

/-- The payloads of the barrier's round, and of a send and a receive cell's. -/
theorem rest_bar : bigSep ((rd (F := F) m ρ).duties (barCell c) 0 \ ∅) (fun d => (rd (F := F) m ρ).payload (barCell c) 0 d)
    = iprop(bwdSlots (prv c) ∗ fwdSlots (nxt c)) := by
  rw [Finset.sdiff_empty, duties_bar, bigSep_univ_eq_bigSepL [false, true] (by decide) (by decide)]
  rfl
/-- The same of a send cell, -/
theorem rest_send : bigSep ((rd (F := F) m ρ).duties (sendCell c t) 0 \ ∅) (fun d => (rd (F := F) m ρ).payload (sendCell c t) 0 d) = sendPay m ρ c t.val := by
  rw [Finset.sdiff_empty, duties_send, bigSep_singleton, payload_send]
/-- and of a receive cell. -/
theorem rest_recv : bigSep ((rd (F := F) m ρ).duties (recvCell c t) 0 \ ∅) (fun d => (rd (F := F) m ρ).payload (recvCell c t) 0 d) = recvPay m ρ c t.val := by
  rw [Finset.sdiff_empty, duties_recv, bigSep_singleton, payload_recv]

end Sched

/-! ## What each device owes -/

/-- The payment that copy `t` of device `c` makes at its destination. -/
abbrev payAt (c : Dev nD) (t : Fin 8) : Pay nD τ sig := (recvCell (dstOf t.val c) t, if t.val < 4 then 2 else 3, amt t.val)

/-- What device `c` pays others, the last payment first: its eight copies, then the two barrier signals that it starts with. -/
def dueL (c : Dev nD) : List (Pay nD τ sig) :=
  [payAt c 7, payAt c 6, payAt c 5, payAt c 4, payAt c 3, payAt c 1, payAt c 2, payAt c 0, (barCell (nxt c), 1, 1), (barCell (prv c), 1, 1)]

/-- What device `c` still owes before its last `k` payments. -/
abbrev owed (c : Dev nD) (k : ℕ) : CellTallies nD τ sig ℕ := addL 0 ((dueL c).take k)

/-- Four levels. -/
abbrev Lk : GSem nD τ sig → Finset ℕ := SiteBlocks.L 4
/-- The level at which a cell is waited on. -/
abbrev lvk : GSem nD τ sig → ℕ → ℕ := SiteBlocks.lv

omit [FloatOps F] in
/-- A wait at level `i` while only payments above `i` are owed. -/
theorem mayWait (c : Dev nD) (sm : SemLoc sig) (i k : ℕ) (hi : i < 4) (hl : ∀ x ∈ (dueL c).take k, i < x.2.1) :
    (levAts Lk lvk : sProp 𝕄) ⊢ MayWait (c : Thread nD τ) sm i (owed c k) :=
  TalkSites.mayWait_addL (O := fun _ => 0) hi (le_refl 4) (SiteBlocks.above_zero 4 4) c sm _ fun x hx => by
    refine ⟨?_, hl x hx, ?_⟩ <;>
    · have hx' := List.mem_of_mem_take hx
      simp only [dueL, List.mem_cons, List.not_mem_nil, or_false] at hx'
      rcases hx' with rfl | rfl | rfl | rfl | rfl | rfl | rfl | rfl | rfl | rfl <;> first | rfl | exact (by show (2:ℕ) < 4; decide) | exact (by show (3:ℕ) < 4; decide) | exact (by show (1:ℕ) < 4; decide)

end Cert.RingMatmul

end
-- ==== Proof.Ops.lean ====
/-
# The steps of the exchange

One rule for a copy out of a device's own block, one for a copy out of a slot that it passes on, one for a wait on a receive
cell and one for a wait on a send cell, each at the cells of `Proof.Setup`.
-/
module

public import proofs.«01_k».proof.Proof.Setup

@[expose] public section

noncomputable section

namespace Cert.RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-- The program has no loops to bound. -/
abbrev 𝒱₀ : Variants := Variants.none

/-! ## Where the elements of the windows lie -/

/-- Where an element of a half of the own block lies, -/
theorem half_emb (r : ℕ) (h) (y : S128x1024.Idx) :
    ((half r h).view.emb y 0).val = r + (y 0).val ∧ ((half r h).view.emb y 1).val = (y 1).val := by
  constructor
  · show r + 1 * (y 0).val = _; omega
  · show 0 + 1 * (y 1).val = _; omega

/-- where one of slot `k` lies, -/
theorem slot_emb (k : ℕ) (h) (y : S128x1024.Idx) :
    ((slot k h).view.emb y 0).val = k ∧ ((slot k h).view.emb y 1).val = (y 0).val ∧ ((slot k h).view.emb y 2).val = (y 1).val := by
  have e : (slot k h).view.emb y = (Rect.unit (s := S6x128x1024) ![k, 0, 0] S1x128x1024.size h).emb (ix3 (⟨0, Nat.one_pos⟩ : Fin 1) (y 0) (y 1)) := by
    rw [← reshapeEquiv_ix2_1ab (a := 128) (b := 1024) (by decide +kernel) (y 0) (y 1)]
    exact congrArg _ (funext fun a : Fin 2 => by fin_cases a <;> rfl)
  rw [e]
  refine ⟨?_, ?_, ?_⟩
  · show k + 1 * 0 = _; omega
  · show 0 + 1 * (y 0).val = _; omega
  · show 0 + 1 * (y 1).val = _; omega

/-- and where one of 64 rows of slot `k` lies. -/
theorem qtr_emb (k r : ℕ) (h) (y : S64x1024.Idx) :
    ((qtr k r h).view.emb y 0).val = k ∧ ((qtr k r h).view.emb y 1).val = r + (y 0).val ∧ ((qtr k r h).view.emb y 2).val = (y 1).val := by
  have e : (qtr k r h).view.emb y = (Rect.unit (s := S6x128x1024) ![k, r, 0] S1x64x1024.size h).emb (ix3 (⟨0, Nat.one_pos⟩ : Fin 1) (y 0) (y 1)) := by
    rw [← reshapeEquiv_ix2_1ab (a := 64) (b := 1024) (by decide +kernel) (y 0) (y 1)]
    exact congrArg _ (funext fun a : Fin 2 => by fin_cases a <;> rfl)
  rw [e]
  refine ⟨?_, ?_, ?_⟩
  · show k + 1 * 0 = _; omega
  · show r + 1 * (y 0).val = _; omega
  · show 0 + 1 * (y 1).val = _; omega

/-- A place of the landing buffer by its coordinates. -/
theorem commF_eq (c : Dev nD) (i : S6x128x1024.Idx) (j : S256x1024.Idx) (k : ℕ) (hk : (i 0).val = k) (h0 : (j 0).val = 128 * (k % 2) + (i 1).val)
    (h1 : (j 1).val = (i 2).val) : commF m ρ c i = xbF m ρ (slotDev c k) j := by
  subst hk
  unfold commF
  congr 1
  funext a
  fin_cases a
  · exact Fin.ext h0.symm
  · exact Fin.ext h1.symm

/-- The rows `r ..` of device `d`'s block, copied into slot `k` of device `c`, are what the slot ends with. -/
theorem land_slot (c d : Dev nD) (r k : ℕ) (hr h) (hd : slotDev c k = d) (hk : r = 128 * (k % 2)) (fd : S6x128x1024.Idx → F .bf16) :
    ∀ i ∈ cut k 0 128, (slot k h).view.write (Elt F) fd ((half r hr).view.read (Elt F) (xbF m ρ d)) Finset.univ i = commF m ρ c i := by
  intro i hi
  rw [← slot_set k h, View.set, Finset.mem_map] at hi
  obtain ⟨y, -, rfl⟩ := hi
  rw [View.write_emb_of_mem _ _ (Finset.mem_univ y)]
  obtain ⟨e0, e1, e2⟩ := slot_emb k h y
  obtain ⟨g0, g1⟩ := half_emb r hr y
  rw [commF_eq m ρ c _ ((half r hr).view.emb y) k e0 (by rw [g0, e1, hk]) (by rw [g1, e2]), hd]
  rfl

/-- The rows `r ..` of slot `k` of device `d`, copied into the same rows of slot `k'` of device `c`, are what those end with. -/
theorem land_qtr (c d : Dev nD) (k k' r : ℕ) (hs h) (hd : slotDev c k' = slotDev d k) (hk : k' % 2 = k % 2) (hr : r + 64 ≤ 128) (fd : S6x128x1024.Idx → F .bf16) :
    ∀ i ∈ cut k' r (r + 64), (qtr k' r h).view.write (Elt F) fd ((qtr k r hs).view.read (Elt F) (commF m ρ d)) Finset.univ i = commF m ρ c i := by
  intro i hi
  rw [← qtr_set k' r h, View.set, Finset.mem_map] at hi
  obtain ⟨y, -, rfl⟩ := hi
  rw [View.write_emb_of_mem _ _ (Finset.mem_univ y)]
  obtain ⟨e0, e1, e2⟩ := qtr_emb k' r h y
  obtain ⟨g0, g1, g2⟩ := qtr_emb k r hs y
  have hy : (y 0).val < 64 := (y 0).isLt
  have hw : (y 1).val < 1024 := (y 1).isLt
  let j : S256x1024.Idx := ix2 ⟨128 * (k % 2) + (r + (y 0).val), by omega⟩ ⟨(y 1).val, hw⟩
  rw [commF_eq m ρ c _ j k' e0 (by rw [e1, hk]) (by rw [e2]), hd]
  exact commF_eq m ρ d ((qtr k r hs).view.emb y) j k g0 (by rw [g1]) (by rw [g2])

/-! ## What the windows hold, spelled by the memrefs -/

/-- A half of the own block, -/
theorem half_pts (c : Dev nD) (r : ℕ) (h) (q : PosShare TreeShare) :
    ((half r h).view.loc (c : Thread nD τ) ↦[(half r h).view.set]{q} xbF m ρ c : sProp 𝕄) = xPts m ρ c r (r + 128) q := by
  rw [half_set]; rfl
omit [FloatOps F] in
/-- a slot, -/
theorem slot_pts (c : Dev nD) (k : ℕ) (h) (q : PosShare TreeShare) (f : S6x128x1024.Idx → F .bf16) :
    ((slot k h).view.loc (c : Thread nD τ) ↦[(slot k h).view.set]{q} f : sProp 𝕄) = cPts c k 0 128 q f := by
  rw [slot_set]; rfl
omit [FloatOps F] in
/-- and 64 rows of one. -/
theorem qtr_pts (c : Dev nD) (k r : ℕ) (h) (q : PosShare TreeShare) (f : S6x128x1024.Idx → F .bf16) :
    ((qtr k r h).view.loc (c : Thread nD τ) ↦[(qtr k r h).view.set]{q} f : sProp 𝕄) = cPts c k r (r + 64) q f := by
  rw [qtr_set]; rfl
omit [FloatOps F] in
/-- Contents that agree on the rows are as good. -/
theorem cPts_congr (c : Dev nD) (k a b : ℕ) (q : PosShare TreeShare) (f g : S6x128x1024.Idx → F .bf16) (h : ∀ i ∈ cut k a b, f i = g i) :
    (cPts c k a b q f : sProp 𝕄) = cPts c k a b q g := pointsTo_congr h

/-! ## What every step may use: each cell's invariant, and that its round 0 is reached -/

section Steps
variable (K : Dev nD × Fin 17 → ℕ)

/-- Every cell's invariant, and that its round 0 is reached. -/
def records : sProp 𝕄 :=
  iprop((bigSep Finset.univ fun ck => cellInv ER (rd m ρ) (K ck) (kcell ck)) ∗ (bigSep Finset.univ fun ck => reached ER (kcell ck) 0))

/-- Both may be kept and used again. -/
instance records_persistent : BI.Persistent (records (F := F) m ρ K) := by unfold records; infer_instance

/-- The invariant of one cell. -/
theorem inv_at (ck : Dev nD × Fin 17) (g : GSem nD τ sig) (hg : kcell ck = g) :
    records (F := F) m ρ K ⊢ cellInv ER (rd m ρ) (K ck) g := by
  subst hg
  unfold records
  exact sep_elim_left.trans (bigSep_elim (Finset.mem_univ ck))
/-- Round 0 of one cell is reached. -/
theorem reached_at (ck : Dev nD × Fin 17) (g : GSem nD τ sig) (hg : kcell ck = g) :
    records (F := F) m ρ K ⊢ reached ER g 0 := by
  subst hg
  unfold records
  exact sep_elim_right.trans (bigSep_elim (Finset.mem_univ ck))

/-- What device `c` still owes with `k` payments to go, whatever it has waited for. -/
def debt (c : Dev nD) (k : ℕ) : sProp 𝕄 := iprop(∃ W, owes (c : Thread nD τ) (owed c k) W)

/-- The right to pay copy `t`'s two duties: at its own send cell and at the destination's receive cell. -/
def payTok (c : Dev nD) (t : Fin 8) : sProp 𝕄 :=
  iprop(dutyTok ER (sendCell c t) 0 false ∗ dutyTok ER (recvCell (dstOf t.val c) t) 0 false)

/-- The credit to wait with on send cell `t` of device `c`, and on its receive cell `t`; -/
def credS (c : Dev nD) (t : Fin 8) : sProp 𝕄 := cred (tallyAt (sendCell c t) 0 (amt t.val))
/-- the credit of a receive cell, at the level of its hop; -/
def credR (c : Dev nD) (t : Fin 8) : sProp 𝕄 := cred (tallyAt (recvCell c t) (if t.val < 4 then 2 else 3) (amt t.val))
/-- the position at the start of either cell; -/
def posS (c : Dev nD) (t : Fin 8) : sProp 𝕄 := atPos ER (sendCell c t) 0 ∅ 0
/-- the same of a receive cell; -/
def posR (c : Dev nD) (t : Fin 8) : sProp 𝕄 := atPos ER (recvCell c t) 0 ∅ 0
/-- either cell closed, its counter at zero. -/
def zeroS (c : Dev nD) (t : Fin 8) : sProp 𝕄 := semVal (sendCell c t) 0
/-- The same of a receive cell. -/
def zeroR (c : Dev nD) (t : Fin 8) : sProp 𝕄 := semVal (recvCell c t) 0

/-- A piece of program of device `c`'s TensorCore. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A copy, the transfer addressed to `n = dstOf t c`: its source share, the destination window and the two duties are handed
    in; the credit to wait for the source with comes back, and one payment less is owed. -/
theorem wp_copy (c n d : Dev nD) (t : Fin 8) (hn : n = d) (hd : dstOf t.val c = d) (j : ℕ)
    (hO : owed c (j + 1) = owed c j + tallyAt (recvCell d t) (if t.val < 4 then 2 else 3) (amt t.val))
    {s : Shape} {src dst : Memref sig .tc .vmem s .bf16} {sS sR : DmaSem sig} (hs : sS = sendQ t) (hr : sR = recvQ t)
    (hN : dst.view.dmaCredit = amt t.val) {q : PosShare TreeShare} {fs : Buf (Elt F) (src.view.loc (c : Thread nD τ))}
    {fd : Buf (Elt F) (dst.view.loc (n : Thread nD τ))} (D P : sProp 𝕄) (hP : sendPay m ρ c t.val = P)
    (hsrc : P = (src.view.loc (c : Thread nD τ) ↦[src.view.set]{q} fs))
    (hD : D = (dst.view.loc (n : Thread nD τ) ↦[dst.view.set]{fullShare} fd))
    (hland : (dst.view.loc (n : Thread nD τ) ↦[dst.view.set]{fullShare} (dst.view.write (Elt F) fd (src.view.read (Elt F) fs) Finset.univ))
      ⊢ recvPay m ρ n t.val)
    {hsc : (dst : Memref sig (Dev.tc n : Thread nD τ).2.kind .vmem s .bf16).view.ref.isScScratch = false}
    {hsrc' : src.view.WordExact} {hdst' : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    records (F := F) m ρ K ⊢ iprop(P -∗ D -∗ debt c (j + 1) -∗ payTok c t
      -∗ ((credS c t ∗ debt c j) -∗ WP c (k ⟨⟩) Q)
      -∗ WP c (.op (.enqueueDma src (.remote (Dev.tc n : Thread nD τ) dst (.dma sS) hsc) (.dma sR) hsrc' hdst' hsem) k) Q) := by
  subst hn hd hs hr hD hP
  unfold debt payTok credS
  rw [hsrc]
  iintro #HR Hs HD ⟨%W, HO⟩ ⟨Ht1, Ht2⟩ Hk
  iapply (Rounds.wp_send_pointsTo 𝒱₀ ER (rd m ρ) (c : Thread nD τ) none (κ₁ := K (c, sIx t)) (κ₂ := K (dstOf t.val c, rIx t))
    (sS := .dma (sendQ t)) (sem := .dma (recvQ t)) (r₁ := 0) (r₂ := 0) (d₁ := false) (d₂ := false) (fs := fs) (fd := fd)
    (by rw [duties_send]; exact Finset.mem_singleton_self _) (by rw [duties_recv]; exact Finset.mem_singleton_self _)
    (if t.val < 4 then 2 else 3) 0 (amt t.val) hN (amount_send m ρ c t false) (amount_recv m ρ (dstOf t.val c) t false) (owed c j) hO (W := W)
    (by rw [payload_send, hsrc]) (by rw [payload_recv]; exact hland)) $$ [Hs HD HO Ht1 Ht2]
  · isplitr; · iapply (inv_at m ρ K (c, sIx t) _ (kcell_send c t)); iexact HR
    isplitr; · iapply (inv_at m ρ K (dstOf t.val c, rIx t) _ (kcell_recv _ t)); iexact HR
    isplitl [Hs]; · iexact Hs
    isplitl [HD]; · iexact HD
    isplitl [HO]; · iexact HO
    isplitl [Ht1]; · iexact Ht1
    isplitr; · iapply (reached_at m ρ K (c, sIx t) _ (kcell_send c t)); iexact HR
    isplitl [Ht2]; · iexact Ht2
    iapply (reached_at m ρ K (dstOf t.val c, rIx t) _ (kcell_recv _ t)); iexact HR
  iintro ⟨Hc, HO⟩
  iapply Hk
  isplitl [Hc]; · iexact Hc
  iexists W; iexact HO

/-- A copy of 128 rows of the device's own block into slot `k` of its neighbour. -/
theorem wp_copy_own (c n d : Dev nD) (t : Fin 8) (hn : n = d) (hd : dstOf t.val c = d) (j r e k : ℕ) (he : r + 128 = e)
    (hO : owed c (j + 1) = owed c j + tallyAt (recvCell d t) (if t.val < 4 then 2 else 3) (amt t.val))
    {sS sR : DmaSem sig} (hs : sS = sendQ t) (hr : sR = recvQ t) (ht : t.val < 4)
    {h₁ h₂} (q : PosShare TreeShare) (fd : S6x128x1024.Idx → F .bf16)
    (hsrc : sendPay m ρ c t.val = xPts m ρ c r e q) (hdst : recvPay m ρ d t.val = cPts d k 0 128 fullShare (commF m ρ d))
    (hdk : slotDev d k = c) (hk : r = 128 * (k % 2))
    {hsc : (slot k h₂ : Memref sig (Dev.tc n : Thread nD τ).2.kind .vmem S128x1024 .bf16).view.ref.isScScratch = false}
    {hsrc' : (half r h₁).view.WordExact} {hdst' : (slot k h₂).view.WordExact}
    {hsem : DmaTarget.Typed .vmem (.dma sR) (.remote (Dev.tc n : Thread nD τ) (slot k h₂) (.dma sS) hsc)}
    {α : Type} {Q : α → sProp 𝕄} {kk : PUnit → Prog (TpuEff nD τ sig (Elt F) Λ₀ .tc) α} :
    records (F := F) m ρ K ⊢ iprop(xPts m ρ c r e q -∗ cPts d k 0 128 fullShare fd -∗ debt c (j + 1) -∗ payTok c t
      -∗ ((credS c t ∗ debt c j) -∗ WP c (kk ⟨⟩) Q)
      -∗ WP c (.op (.enqueueDma (half r h₁) (.remote (Dev.tc n : Thread nD τ) (slot k h₂) (.dma sS) hsc) (.dma sR) hsrc' hdst' hsem) kk) Q) :=
by
  subst hn he
  have e₁ := (half_pts m ρ c r h₁ q).symm
  have e₂ := (slot_pts (F := F) n k h₂ fullShare fd).symm
  have e₃ := (slot_pts (F := F) n k h₂ fullShare _).trans ((cPts_congr n k 0 128 fullShare _ _ (land_slot m ρ n c r k h₁ h₂ hdk hk fd)).trans hdst.symm)
  exact wp_copy m ρ K c n n t rfl hd j hO (src := half r h₁) (dst := slot k h₂) hs hr ((credit_slot k h₂).trans (if_pos ht).symm) (q := q)
    (fs := xbF m ρ c) (fd := fd) (cPts n k 0 128 fullShare fd) _ hsrc e₁ e₂ (Entails.of_eq e₃)

/-- A copy of 64 rows of slot `k` into the same rows of slot `k'` of the neighbour. -/
theorem wp_copy_on (c n d : Dev nD) (t : Fin 8) (hn : n = d) (hd : dstOf t.val c = d) (j k k' r e : ℕ) (he : r + 64 = e)
    (hO : owed c (j + 1) = owed c j + tallyAt (recvCell d t) (if t.val < 4 then 2 else 3) (amt t.val))
    {sS sR : DmaSem sig} (hs : sS = sendQ t) (hr : sR = recvQ t) (ht : ¬ t.val < 4)
    {h₁ h₂} (fd : S6x128x1024.Idx → F .bf16)
    (hsrc : sendPay m ρ c t.val = cPts c k r e fullShare.right (commF m ρ c))
    (hdst : recvPay m ρ d t.val = cPts d k' r e fullShare (commF m ρ d))
    (hdk : slotDev d k' = slotDev c k) (hk : k' % 2 = k % 2) (hr' : r + 64 ≤ 128)
    {hsc : (qtr k' r h₂ : Memref sig (Dev.tc n : Thread nD τ).2.kind .vmem S64x1024 .bf16).view.ref.isScScratch = false}
    {hsrc' : (qtr k r h₁).view.WordExact} {hdst' : (qtr k' r h₂).view.WordExact}
    {hsem : DmaTarget.Typed .vmem (.dma sR) (.remote (Dev.tc n : Thread nD τ) (qtr k' r h₂) (.dma sS) hsc)}
    {α : Type} {Q : α → sProp 𝕄} {kk : PUnit → Prog (TpuEff nD τ sig (Elt F) Λ₀ .tc) α} :
    records (F := F) m ρ K ⊢ iprop(cPts c k r e fullShare.right (commF m ρ c) -∗ cPts d k' r e fullShare fd -∗ debt c (j + 1) -∗ payTok c t
      -∗ ((credS c t ∗ debt c j) -∗ WP c (kk ⟨⟩) Q)
      -∗ WP c (.op (.enqueueDma (qtr k r h₁) (.remote (Dev.tc n : Thread nD τ) (qtr k' r h₂) (.dma sS) hsc) (.dma sR) hsrc' hdst' hsem) kk) Q) :=
by
  subst hn he
  have e₁ := (qtr_pts (F := F) c k r h₁ fullShare.right (commF m ρ c)).symm
  have e₂ := (qtr_pts (F := F) n k' r h₂ fullShare fd).symm
  have e₃ := (qtr_pts (F := F) n k' r h₂ fullShare _).trans ((cPts_congr n k' r (r + 64) fullShare _ _ (land_qtr m ρ n c k k' r h₁ h₂ hdk hk hr' fd)).trans hdst.symm)
  exact wp_copy m ρ K c n n t rfl hd j hO (src := qtr k r h₁) (dst := qtr k' r h₂) hs hr ((credit_qtr k' r h₂).trans (if_neg ht).symm) (q := fullShare.right)
    (fs := commF m ρ c) (fd := fd) (cPts n k' r (r + 64) fullShare fd) _ hsrc e₁ e₂ (Entails.of_eq e₃)

/-- A wait on receive cell `t`, `j` payments still owed, all of them above it: what landed, and the cell closed. -/
theorem wp_recv (c : Dev nD) (t : Fin 8) (j : ℕ) (hj : ∀ x ∈ (dueL c).take j, (if t.val < 4 then 2 else 3) < x.2.1)
    {s s' : Shape} {src : Memref sig .tc .vmem s' .bf16} {dst : Memref sig .tc .vmem s .bf16} {sR : DmaSem sig} (hr : sR = recvQ t) (P : sProp 𝕄) (hP : recvPay m ρ c t.val = P)
    (hN : dst.view.dmaCredit = amt t.val)
    {hsrc' : src.view.WordExact} {hdst' : dst.view.WordExact}
    {α : Type} {Q : α → sProp 𝕄} {k : PUnit → Prog (TpuEff nD τ sig (Elt F) Λ₀ .tc) α} :
    records (F := F) m ρ K ⊢ iprop(levAts Lk lvk -∗ credR c t -∗ debt c j -∗ posR c t
      -∗ ((debt c j ∗ zeroR c t ∗ P) -∗ WP c (k ⟨⟩) Q)
      -∗ WP c (.op (.waitDma2 sR src dst hsrc' hdst') k) Q) := by
  subst hr hP
  unfold debt credR posR zeroR
  rw [← hN]
  iintro #HR #Hlev Hc ⟨%W, HO⟩ Hat Hk
  iapply (Rounds.wp_wait_rest_token 𝒱₀ ER (rd m ρ) (c : Thread nD τ) none (κ := K (c, rIx t))
      (wpE_waitDma2_eq 𝒱₀ (c : Thread nD τ) none Set.univ) (Set.mem_univ _) (if t.val < 4 then 2 else 3) (O := owed c j) (W := W) (R := 0) (m := 0) (T := ∅)
      (by rw [Nat.zero_add, expect_recv]; exact hN)) $$ [Hc HO Hat]
  · isplitr; · iapply (inv_at m ρ K (c, rIx t) _ (kcell_recv c t)); iexact HR
    isplitl [Hc]; · iexact Hc
    isplitl [HO]; · iexact HO
    isplitr; · iapply (mayWait c (.dma (recvQ t)) (if t.val < 4 then 2 else 3) j (by split <;> decide) hj); iexact Hlev
    iexact Hat
  iintro ⟨HO, Hat, -, Hpay⟩
  ihave Hp := (Entails.of_eq (rest_recv m ρ c t)) $$ Hpay
  imod (Rounds.cell_close ER (rd m ρ) (Set.mem_univ (K (c, rIx t))) (fun h => h) (R := 0 + 1) (duties_later m ρ (recvCell c t))) $$ [Hat] with Hz
  · isplitr; · iapply (inv_at m ρ K (c, rIx t) _ (kcell_recv c t)); iexact HR
    iexact Hat
  iapply Hk
  isplitl [HO]; · iexists _; iexact HO
  isplitl [Hz]; · iexact Hz
  iexact Hp

/-- A wait on send cell `t` with nothing owed: the source share, and the cell closed. -/
theorem wp_sent (c : Dev nD) (t : Fin 8)
    {s s' : Shape} {src : Memref sig .tc .vmem s' .bf16} {dst : Memref sig .tc .vmem s .bf16} {sS : DmaSem sig} (hr : sS = sendQ t) (P : sProp 𝕄) (hP : sendPay m ρ c t.val = P)
    (hN : dst.view.dmaCredit = amt t.val)
    {hsrc' : src.view.WordExact} {hdst' : dst.view.WordExact}
    {α : Type} {Q : α → sProp 𝕄} {k : PUnit → Prog (TpuEff nD τ sig (Elt F) Λ₀ .tc) α} :
    records (F := F) m ρ K ⊢ iprop(credS c t -∗ debt c 0 -∗ posS c t
      -∗ ((debt c 0 ∗ zeroS c t ∗ P) -∗ WP c (k ⟨⟩) Q)
      -∗ WP c (.op (.waitDma2 sS src dst hsrc' hdst') k) Q) := by
  subst hr hP
  unfold debt credS posS zeroS
  rw [← hN]
  iintro #HR Hc ⟨%W, HO⟩ Hat Hk
  iapply (Rounds.wp_wait_rest_token 𝒱₀ ER (rd m ρ) (c : Thread nD τ) none (κ := K (c, sIx t))
      (wpE_waitDma2_eq 𝒱₀ (c : Thread nD τ) none Set.univ) (Set.mem_univ _) 0 (O := owed c 0) (W := W) (R := 0) (m := 0) (T := ∅)
      (by rw [Nat.zero_add, expect_send]; exact hN)) $$ [Hc HO Hat]
  · isplitr; · iapply (inv_at m ρ K (c, sIx t) _ (kcell_send c t)); iexact HR
    isplitl [Hc]; · iexact Hc
    isplitl [HO]; · iexact HO
    isplitr; · rw [show owed c 0 = 0 from rfl, MayWait_zero]; iempintro
    iexact Hat
  iintro ⟨HO, Hat, -, Hpay⟩
  ihave Hp := (Entails.of_eq (rest_send m ρ c t)) $$ Hpay
  imod (Rounds.cell_close ER (rd m ρ) (Set.mem_univ (K (c, sIx t))) (fun h => h) (R := 0 + 1) (duties_later m ρ (sendCell c t))) $$ [Hat] with Hz
  · isplitr; · iapply (inv_at m ρ K (c, sIx t) _ (kcell_send c t)); iexact HR
    iexact Hat
  iapply Hk
  isplitl [HO]; · iexists _; iexact HO
  isplitl [Hz]; · iexact Hz
  iexact Hp

/-- A signal of one unit to the barrier of `n`, paying its duty `d`. -/
theorem wp_tell (c n n' : Dev nD) (hn : n = n') (d : Bool) (j : ℕ) (hO : owed c (j + 1) = owed c j + tallyAt (barCell n') 1 1)
    {α : Type} {Q : α → sProp 𝕄} {k : PUnit → Prog (TpuEff nD τ sig (Elt F) Λ₀ .tc) α} :
    records (F := F) m ρ K ⊢ iprop((if d then fwdSlots (nxt n') else bwdSlots (prv n')) -∗ debt c (j + 1) -∗ dutyTok ER (barCell n') 0 d
      -∗ (debt c j -∗ WP c (k ⟨⟩) Q)
      -∗ WP c (.op (.semSignal (n : Thread nD τ) barS 1) k) Q) := by
  subst hn
  unfold debt
  iintro #HR Hp ⟨%W, HO⟩ Ht Hk
  iapply (Rounds.wp_signal 𝒱₀ ER (rd m ρ) (c : Thread nD τ) none (dst := (n : Thread nD τ)) (κ := K (n, 0))
      (r := 0) (d := d) (by rw [duties_bar]; exact Finset.mem_univ _) (amount_bar m ρ n d) 1 (owed c j) hO) $$ [HO Ht Hp]
  · isplitr; · iapply (inv_at m ρ K (n, 0) _ (kcell_bar n)); iexact HR
    isplitl [HO]; · iexact HO
    isplitl [Ht]; · iexact Ht
    isplitl [Hp]; · rw [payload_bar]; iexact Hp
    iapply (reached_at m ρ K (n, 0) _ (kcell_bar n)); iexact HR
  iintro HO
  iapply Hk; iexists W; iexact HO

/-- The wait for both neighbours on the device's own barrier, its copies still owed: the slots it copies into. -/
theorem wp_bar (c : Dev nD) {α : Type} {Q : α → sProp 𝕄} {k : PUnit → Prog (TpuEff nD τ sig (Elt F) Λ₀ .tc) α} :
    records (F := F) m ρ K ⊢ iprop(levAts Lk lvk -∗ cred (tallyAt (barCell c) 1 2) -∗ debt c 8 -∗ atPos ER (barCell c) 0 ∅ 0
      -∗ ((debt c 8 ∗ semVal (barCell c) 0 ∗ bwdSlots (prv c) ∗ fwdSlots (nxt c)) -∗ WP c (k ⟨⟩) Q)
      -∗ WP c (.op (.semWait barS 2) k) Q) := by
  unfold debt
  iintro #HR #Hlev Hc ⟨%W, HO⟩ Hat Hk
  iapply (Rounds.wp_wait_rest_token 𝒱₀ ER (rd m ρ) (c : Thread nD τ) none (κ := K (c, 0))
      (wpE_semWait_eq 𝒱₀ (c : Thread nD τ) none Set.univ) (Set.mem_univ _) 1 (O := owed c 8) (W := W) (R := 0) (m := 0) (T := ∅)
      (by rw [Nat.zero_add]; exact (expect_bar m ρ c).symm)) $$ [Hc HO Hat]
  · isplitr; · iapply (inv_at m ρ K (c, 0) _ (kcell_bar c)); iexact HR
    isplitl [Hc]; · iexact Hc
    isplitl [HO]; · iexact HO
    isplitr
    · iapply (mayWait c (.reg barS) 1 8 (by decide) (by
        intro x hx
        simp only [dueL, List.take, List.mem_cons, List.not_mem_nil, or_false] at hx
        rcases hx with rfl | rfl | rfl | rfl | rfl | rfl | rfl | rfl <;> first | exact (by decide : 1 < 2) | exact (by decide : 1 < 3)))
      iexact Hlev
    iexact Hat
  iintro ⟨HO, Hat, -, Hpay⟩
  ihave Hp := (Entails.of_eq (rest_bar m ρ c)) $$ Hpay
  imod (Rounds.cell_close ER (rd m ρ) (Set.mem_univ (K (c, 0))) (fun h => h) (R := 0 + 1) (duties_later m ρ (barCell c))) $$ [Hat] with Hz
  · isplitr; · iapply (inv_at m ρ K (c, 0) _ (kcell_bar c)); iexact HR
    iexact Hat
  iapply Hk
  isplitl [HO]; · iexists _; iexact HO
  isplitl [Hz]; · iexact Hz
  iexact Hp

end Steps

end Cert.RingMatmul

end
-- ==== Proof.Body.lean ====
/-
# The kernel body, run symbolically at a device `c`

The printed parts are taken in four groups: the start up to the barrier, the first hop with the copies passed on, the loads and
products as the blocks arrive, and the waits for the sources at the end.
-/
module

public import proofs.«01_k».proof.Proof.Ops

@[expose] public section

noncomputable section

namespace Cert.RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The pieces of the result -/

/-- A load of slot `k`, and of the 64 rows from row `r` of it, once everything has landed. -/
abbrev slotRd (c : Dev nD) (k : ℕ) (h : ∀ a, (![k, 0, 0] : Fin 3 → ℕ) a + S1x128x1024.size a ≤ S6x128x1024.size a) : Vec F S1x128x1024 .bf16 :=
  cmM.view.readAt (Elt F) (Rect.unit (s := S6x128x1024) ![k, 0, 0] S1x128x1024.size h).toLoadRect (commF m ρ c)
/-- A load of the 64 rows from row `r` of slot `k`, once everything has landed. -/
abbrev qtrRd (c : Dev nD) (k r : ℕ) (h : ∀ a, (![k, r, 0] : Fin 3 → ℕ) a + S1x64x1024.size a ≤ S6x128x1024.size a) : Vec F S1x64x1024 .bf16 :=
  cmM.view.readAt (Elt F) (Rect.unit (s := S6x128x1024) ![k, r, 0] S1x64x1024.size h).toLoadRect (commF m ρ c)

/-- A store into the result: where, and what. -/
abbrev Piece' (F : FTy → Type) : Type := View.Piece (Elt F) S1024x256 .f32

/-- The nine stores into the result, in program order: first the own rows, -/
def p1 (c : Dev nD) : Piece' F := ⟨Rect.unit (s := S1024x256) (k0_off1 c) S256x256.size (k0_off1_inb c), k0_pay3 (xbF m ρ c) (wbF m ρ c)⟩
/-- then the first half of the predecessor's rows, from slot 0. -/
def p2 (c : Dev nD) : Piece' F := ⟨Rect.unit (s := S1024x256) (k0_off2 c) S128x256.size (k0_off2_inb c), k0_pay4 (slotRd m ρ c 0 inb_S6x128x1024_S1x128x1024_0_0_0) (wbF m ρ c)⟩
/-- The second half of the predecessor's rows, from slot 1. -/
def p3 (c : Dev nD) : Piece' F := ⟨Rect.unit (s := S1024x256) (k0_off3 c) S128x256.size (k0_off3_inb c),
  k0_pay6 (k0_pay5 (slotRd m ρ c 1 inb_S6x128x1024_S1x128x1024_1_0_0) (wbF m ρ c)) (Scalar.ofBits .f32 0x00000000#32)⟩
/-- The second half of the successor's rows, from slot 3. -/
def p4 (c : Dev nD) : Piece' F := ⟨Rect.unit (s := S1024x256) (k0_off4 c) S128x256.size (k0_off4_inb c), k0_pay7 (slotRd m ρ c 3 inb_S6x128x1024_S1x128x1024_3_0_0) (wbF m ρ c)⟩
/-- The first half of the successor's rows, from slot 2. -/
def p5 (c : Dev nD) : Piece' F := ⟨Rect.unit (s := S1024x256) (k0_off5 c) S128x256.size (k0_off5_inb c), k0_pay8 (slotRd m ρ c 2 inb_S6x128x1024_S1x128x1024_2_0_0) (wbF m ρ c)⟩
/-- The opposite device's first quarter, from slot 4. -/
def p6 (c : Dev nD) : Piece' F := ⟨Rect.unit (s := S1024x256) (k0_off6 c) S64x256.size (k0_off6_inb c), k0_pay9 (qtrRd m ρ c 4 0 inb_S6x128x1024_S1x64x1024_4_0_0) (wbF m ρ c)⟩
/-- Its third quarter, from slot 5. -/
def p7 (c : Dev nD) : Piece' F := ⟨Rect.unit (s := S1024x256) (k0_off7 c 128#32) S64x256.size (k0_off7_inb c 1), k0_pay10 (qtrRd m ρ c 5 0 inb_S6x128x1024_S1x64x1024_5_0_0) (wbF m ρ c)⟩
/-- Its second quarter, from slot 4. -/
def p8 (c : Dev nD) : Piece' F := ⟨Rect.unit (s := S1024x256) (k0_off7 c 64#32) S64x256.size (k0_off7_inb c 0), k0_pay11 (qtrRd m ρ c 4 64 inb_S6x128x1024_S1x64x1024_4_64_0) (wbF m ρ c)⟩
/-- Its last quarter, from slot 5. -/
def p9 (c : Dev nD) : Piece' F := ⟨Rect.unit (s := S1024x256) (k0_off8 c) S64x256.size (k0_off8_inb c), k0_pay12 (qtrRd m ρ c 5 64 inb_S6x128x1024_S1x64x1024_5_64_0) (wbF m ρ c)⟩

/-- The result's staging buffer after the stores `L`, the last first, over contents `g`. -/
def oPts (c : Dev nD) (g : (cc0_stg2_0 : Ref sig .tc).ty.Contents (Elt F)) (L : List (Piece' F)) : sProp 𝕄 :=
  (c : Thread nD τ).loc cc0_stg2_0 ↦{fullShare} (oM.view.writes (Elt F) g L : Buf (Elt F) ((c : Thread nD τ).loc cc0_stg2_0))
/-- The weights' scratch buffer, rounded. -/
def wPts (c : Dev nD) : sProp 𝕄 :=
  (c : Thread nD τ).loc cc0_scratch1 ↦{fullShare} (wbF m ρ c : Buf (Elt F) ((c : Thread nD τ).loc cc0_scratch1))
/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The landing buffer and the own block, whole and by windows -/

omit [FloatOps F] in
/-- A buffer held on two disjoint sets of places is held on each. -/
theorem pts_union {ℓ : Loc nD τ sig} {I J : Finset (Idx ℓ)} {q : PosShare TreeShare} {f : Buf (Elt F) ℓ} (h : ∀ i, i ∈ I → i ∈ J → False) :
    (ℓ ↦[I ∪ J]{q} f : sProp 𝕄) = iprop((ℓ ↦[I]{q} f) ∗ ℓ ↦[J]{q} f) :=
  have hu := pointsTo_union (Ix := ℕ) (Name := ℕ) (U := UU) (Lvl := ℕ) (q := q) (f := f) (Finset.disjoint_left.2 fun {i} => h i)
  BI.equiv_iff.mp ⟨hu.1, hu.2⟩
omit [FloatOps F] in
/-- A full share is its left half and its right half. -/
theorem pts_halves {ℓ : Loc nD τ sig} {I : Finset (Idx ℓ)} {f : Buf (Elt F) ℓ} :
    (ℓ ↦[I]{fullShare} f : sProp 𝕄) = iprop((ℓ ↦[I]{fullShare.left} f) ∗ ℓ ↦[I]{fullShare.right} f) :=
  have hu := pointsTo_share (ℓ := ℓ) (I := I) (f := f) (Ix := ℕ) (Name := ℕ) (U := UU) (Lvl := ℕ) (PosShare.mem_left_op_right fullShare)
  BI.equiv_iff.mp ⟨hu.1, hu.2⟩

omit [FloatOps F] in
/-- The same of disjoint parts of the landing buffer. -/
theorem cm_union (c : Dev nD) {I J : Finset S6x128x1024.Idx} {q : PosShare TreeShare} {f : Buf (Elt F) ((c : Thread nD τ).loc cc0_scratch2)}
    (h : ∀ i, i ∈ I → i ∈ J → False) : ((c : Thread nD τ).loc cc0_scratch2 ↦[I ∪ J]{q} f : sProp 𝕄)
      = iprop(((c : Thread nD τ).loc cc0_scratch2 ↦[I]{q} f) ∗ (c : Thread nD τ).loc cc0_scratch2 ↦[J]{q} f) := pts_union h
omit [FloatOps F] in
/-- The same of disjoint parts of the own bf16 block. -/
theorem xb_union (c : Dev nD) {I J : Finset S256x1024.Idx} {q : PosShare TreeShare} {f : Buf (Elt F) ((c : Thread nD τ).loc cc0_scratch0)}
    (h : ∀ i, i ∈ I → i ∈ J → False) : ((c : Thread nD τ).loc cc0_scratch0 ↦[I ∪ J]{q} f : sProp 𝕄)
      = iprop(((c : Thread nD τ).loc cc0_scratch0 ↦[I]{q} f) ∗ (c : Thread nD τ).loc cc0_scratch0 ↦[J]{q} f) := pts_union h

omit [FloatOps F] in
/-- The landing buffer is its slots, the last two by quarters. -/
theorem comm_split (c : Dev nD) (f : S6x128x1024.Idx → F .bf16) :
    ((c : Thread nD τ).loc cc0_scratch2 ↦{fullShare} (f : Buf (Elt F) ((c : Thread nD τ).loc cc0_scratch2)) : sProp 𝕄)
      = iprop((cPts c 0 0 128 fullShare f ∗ cPts c 1 0 128 fullShare f ∗ cPts c 4 0 64 fullShare f ∗ cPts c 4 64 128 fullShare f)
        ∗ (cPts c 2 0 128 fullShare f ∗ cPts c 3 0 128 fullShare f ∗ cPts c 5 0 64 fullShare f ∗ cPts c 5 64 128 fullShare f)) := by
  have hU : (Finset.univ : Finset S6x128x1024.Idx)
      = (cut 0 0 128 ∪ (cut 1 0 128 ∪ (cut 4 0 64 ∪ cut 4 64 128))) ∪ (cut 2 0 128 ∪ (cut 3 0 128 ∪ (cut 5 0 64 ∪ cut 5 64 128))) := by
    ext i
    have h0 : (i 0).val < 6 := (i 0).isLt
    have h1 : (i 1).val < 128 := (i 1).isLt
    simp only [Finset.mem_univ, Finset.mem_union, mem_cut, true_iff]
    omega
  show ((c : Thread nD τ).loc cc0_scratch2 ↦[(Finset.univ : Finset S6x128x1024.Idx)]{fullShare} _) = _
  unfold cPts
  rw [hU, cm_union, cm_union, cm_union, cm_union, cm_union, cm_union, cm_union]
  all_goals
    intro i h h'
    try simp only [Finset.mem_union] at h h'
    try simp only [mem_cut] at h h'
    omega

omit [FloatOps F] in
/-- A slot that is passed on: one half share to read, the other by quarters to send. -/
theorem slot_split (c : Dev nD) (k : ℕ) (f : S6x128x1024.Idx → F .bf16) :
    (cPts c k 0 128 fullShare f : sProp 𝕄)
      = iprop(cPts c k 0 128 fullShare.left f ∗ cPts c k 0 64 fullShare.right f ∗ cPts c k 64 128 fullShare.right f) := by
  have hU : cut k 0 128 = cut k 0 64 ∪ cut k 64 128 := by
    ext i
    simp only [Finset.mem_union, mem_cut]
    omega
  unfold cPts
  rw [pts_halves]
  congr 1
  rw [hU, cm_union]
  intro i h h'
  simp only [mem_cut] at h h'
  omega

/-- The device's own block by halves, each in two half shares. -/
theorem own_split (c : Dev nD) :
    ((c : Thread nD τ).loc cc0_scratch0 ↦{fullShare} (xbF m ρ c : Buf (Elt F) ((c : Thread nD τ).loc cc0_scratch0)) : sProp 𝕄)
      = iprop((xPts m ρ c 0 128 fullShare.left ∗ xPts m ρ c 0 128 fullShare.right) ∗ (xPts m ρ c 128 256 fullShare.left ∗ xPts m ρ c 128 256 fullShare.right)) := by
  have hU : (Finset.univ : Finset S256x1024.Idx) = band 0 128 ∪ band 128 256 := by
    ext i
    have h0 : (i 0).val < 256 := (i 0).isLt
    simp only [Finset.mem_univ, Finset.mem_union, mem_band, true_iff]
    omega
  show ((c : Thread nD τ).loc cc0_scratch0 ↦[(Finset.univ : Finset S256x1024.Idx)]{fullShare} _) = _
  unfold xPts
  rw [hU, xb_union, pts_halves, pts_halves]
  intro i h h'
  simp only [mem_band] at h h'
  omega

/-- What a load from the landing buffer may touch. -/
theorem load_slot (k : ℕ) (h) : (cmM.access (Rect.unit (s := S6x128x1024) ![k, 0, 0] S1x128x1024.size h) : View sig .tc _ _ _).set ⊆ cut k 0 128 := by
  have e := slot_set k h
  rw [View.set_reshape] at e
  exact subset_of_eq e
/-- A load of 64 rows of slot `k` touches only those rows. -/
theorem load_qtr (k r b : ℕ) (hb : r + 64 = b) (h) : (cmM.access (Rect.unit (s := S6x128x1024) ![k, r, 0] S1x64x1024.size h) : View sig .tc _ _ _).set ⊆ cut k r b := by
  subst hb
  have e := qtr_set k r h
  rw [View.set_reshape] at e
  exact subset_of_eq e

/-- The offsets of a whole buffer are zero. -/
theorem hz : (![0, 0] : Fin 2 → Nat) = fun _ => 0 := funext fun a => by fin_cases a <;> rfl

/-! Loads and stores of whole buffers -/

/-- The whole of the block of `x`. -/
abbrev rX : Rect S256x1024 := Rect.unit (s := S256x1024) ![0, 0] S256x1024.size inb_S256x1024_S256x1024_0_0
/-- The whole of the block of `w`. -/
abbrev rW : Rect S1024x256 := Rect.unit (s := S1024x256) ![0, 0] S1024x256.size inb_S1024x256_S1024x256_0_0
omit [FloatOps F] in
/-- A load of all of the staged block of `x` gives its contents. -/
theorem read_x (f : (cc0_stg0_0 : Ref sig .tc).ty.Contents (Elt F)) : xM.view.readAt (Elt F) rX.toLoadRect f = f :=
  Memref.readAt_unit_zero (Elt F) cc0_stg0_0 hz _ f
omit [FloatOps F] in
/-- The same of the staged block of `w`. -/
theorem read_w (f : (cc0_stg1_0 : Ref sig .tc).ty.Contents (Elt F)) : wM.view.readAt (Elt F) rW.toLoadRect f = f :=
  Memref.readAt_unit_zero (Elt F) cc0_stg1_0 hz _ f
omit [FloatOps F] in
/-- The same of the bf16 block of `x`. -/
theorem read_xb (f : (cc0_scratch0 : Ref sig .tc).ty.Contents (Elt F)) : xbM.view.readAt (Elt F) rX.toLoadRect f = f :=
  Memref.readAt_unit_zero (Elt F) cc0_scratch0 hz _ f
omit [FloatOps F] in
/-- The same of the bf16 block of `w`. -/
theorem read_wb (f : (cc0_scratch1 : Ref sig .tc).ty.Contents (Elt F)) : wbM.view.readAt (Elt F) rW.toLoadRect f = f :=
  Memref.readAt_unit_zero (Elt F) cc0_scratch1 hz _ f
omit [FloatOps F] in
/-- A store over all of the bf16 block of `x` leaves what was stored. -/
theorem write_xb (f w : (cc0_scratch0 : Ref sig .tc).ty.Contents (Elt F)) : (xbM.access rX : View sig .tc _ _ _).write (Elt F) f w Finset.univ = w :=
  Memref.write_access_unit_zero_univ (Elt F) cc0_scratch0 hz _ f w
omit [FloatOps F] in
/-- The same of the bf16 block of `w`. -/
theorem write_wb (f w : (cc0_scratch1 : Ref sig .tc).ty.Contents (Elt F)) : (wbM.access rW : View sig .tc _ _ _).write (Elt F) f w Finset.univ = w :=
  Memref.write_access_unit_zero_univ (Elt F) cc0_scratch1 hz _ f w

/-! ## Loads and stores -/

section Access

/-- A load of the result's staging buffer: nothing changes. -/
theorem look_out (c : Dev nD) (g) {L : List (Piece' F)} {r : LoadRect S1024x256} {hl : oM.view.LoadsAt r}
    {α : Type} {Q : α → sProp 𝕄} {kk : (r.shape.Idx → Elt F .f32) → Prog (TpuEff nD τ sig (Elt F) Λ₀ .tc) α} :
    oPts c g L ⊢ iprop((oPts c g L -∗ WP c (kk (oM.view.readAt (Elt F) r (oM.view.writes (Elt F) g L))) Q) -∗ WP c (.op (.load oM r hl) kk) Q) := by
  unfold oPts
  exact wp_load 𝒱₀ (c : Thread nD τ) none Set.univ (m := oM) (Finset.subset_univ _)

/-- A store into it puts one piece in front. -/
theorem put_out (c : Dev nD) (g) {L : List (Piece' F)} {r : Rect S1024x256} {w : r.shape.Idx → Elt F .f32}
    {hx : (oM.access r : View sig .tc _ _ _).Stores Finset.univ} {hm : Finset.univ = Finset.univ ∨ ∀ a, r.stride a = 1}
    {α : Type} {Q : α → sProp 𝕄} {kk : PUnit → Prog (TpuEff nD τ sig (Elt F) Λ₀ .tc) α} :
    oPts c g L ⊢ iprop((oPts c g (⟨r, w⟩ :: L) -∗ WP c (kk ⟨⟩) Q) -∗ WP c (.op (.store oM r w Finset.univ hx hm) kk) Q) := by
  unfold oPts
  exact wp_store_writes 𝒱₀ (c : Thread nD τ) none Set.univ (m := oM) (r := r) (w := w) (L := L) (Finset.subset_univ _)

/-- A load of the rounded weights. -/
theorem look_w (c : Dev nD) {hl : wbM.view.LoadsAt rW.toLoadRect}
    {α : Type} {Q : α → sProp 𝕄} {kk : (rW.toLoadRect.shape.Idx → Elt F .bf16) → Prog (TpuEff nD τ sig (Elt F) Λ₀ .tc) α} :
    wPts m ρ c ⊢ iprop((wPts m ρ c -∗ WP c (kk (wbF m ρ c)) Q) -∗ WP c (.op (.load wbM rW.toLoadRect hl) kk) Q) := by
  unfold wPts
  iintro Hw Hk
  iapply (wp_load 𝒱₀ (c : Thread nD τ) none Set.univ (m := wbM) (Finset.subset_univ _)) $$ Hw; iintro Hw
  rw [read_wb]
  iapply Hk $$ Hw

/-- A load of a landed slot, -/
theorem look_slot (c : Dev nD) (k : ℕ) (h) (q : PosShare TreeShare)
    {hl : cmM.view.LoadsAt (Rect.unit (s := S6x128x1024) ![k, 0, 0] S1x128x1024.size h).toLoadRect}
    {α : Type} {Q : α → sProp 𝕄} {kk : (S1x128x1024.Idx → Elt F .bf16) → Prog (TpuEff nD τ sig (Elt F) Λ₀ .tc) α} :
    cPts c k 0 128 q (commF m ρ c) ⊢ iprop((cPts c k 0 128 q (commF m ρ c) -∗ WP c (kk (slotRd m ρ c k h)) Q)
      -∗ WP c (.op (.load cmM (Rect.unit (s := S6x128x1024) ![k, 0, 0] S1x128x1024.size h).toLoadRect hl) kk) Q) := by
  unfold cPts
  exact wp_load_rect 𝒱₀ (c : Thread nD τ) none Set.univ (m := cmM) (r := Rect.unit (s := S6x128x1024) ![k, 0, 0] S1x128x1024.size h) (load_slot k h)

/-- and of a landed quarter. -/
theorem look_qtr (c : Dev nD) (k r b : ℕ) (hb : r + 64 = b) (h)
    {hl : cmM.view.LoadsAt (Rect.unit (s := S6x128x1024) ![k, r, 0] S1x64x1024.size h).toLoadRect}
    {α : Type} {Q : α → sProp 𝕄} {kk : (S1x64x1024.Idx → Elt F .bf16) → Prog (TpuEff nD τ sig (Elt F) Λ₀ .tc) α} :
    cPts c k r b fullShare (commF m ρ c) ⊢ iprop((cPts c k r b fullShare (commF m ρ c) -∗ WP c (kk (qtrRd m ρ c k r h)) Q)
      -∗ WP c (.op (.load cmM (Rect.unit (s := S6x128x1024) ![k, r, 0] S1x64x1024.size h).toLoadRect hl) kk) Q) := by
  unfold cPts
  exact wp_load_rect 𝒱₀ (c : Thread nD τ) none Set.univ (m := cmM) (r := Rect.unit (s := S6x128x1024) ![k, r, 0] S1x64x1024.size h) (load_qtr k r b hb h)

end Access

/-! ## The groups of parts -/

section Parts
variable (K : Dev nD × Fin 17 → ℕ)

set_option maxHeartbeats 1600000 in
/-- The start: the two signals hand the slots over, the blocks are rounded, the own rows of the result are made, and the wait
    on the barrier gets the neighbours' slots. -/
theorem start_part (c : Dev nD) (v2 v13 v24 : BitVec 32) (f0 f1 f2 g)
    {α : Type} {Q : α → sProp 𝕄} {kk : BitVec 32 → Prog (TpuEff nD τ sig (Elt F) Λ₀ .tc) α} :
    records (F := F) m ρ K ⊢ iprop(levAts Lk lvk -∗ dutyTok ER (barCell (prv c)) 0 true -∗ dutyTok ER (barCell (nxt c)) 0 false
      -∗ cred (tallyAt (barCell c) 1 2) -∗ atPos ER (barCell c) 0 ∅ 0 -∗ debt c 10
      -∗ ((c : Thread nD τ).loc cc0_stg0_0 ↦{fullShare} xstg m ρ c) -∗ ((c : Thread nD τ).loc cc0_stg1_0 ↦{fullShare} wstg m ρ c)
      -∗ ((c : Thread nD τ).loc cc0_stg2_0 ↦{fullShare} g)
      -∗ ((c : Thread nD τ).loc cc0_scratch0 ↦{fullShare} f0) -∗ ((c : Thread nD τ).loc cc0_scratch1 ↦{fullShare} f1)
      -∗ ((c : Thread nD τ).loc cc0_scratch2 ↦{fullShare} f2)
      -∗ (∀ v, (debt c 8 ∗ semVal (barCell c) 0 ∗ bwdSlots (prv c) ∗ fwdSlots (nxt c)
            ∗ ((c : Thread nD τ).loc cc0_stg0_0 ↦{fullShare} xstg m ρ c) ∗ ((c : Thread nD τ).loc cc0_stg1_0 ↦{fullShare} wstg m ρ c)
            ∗ oPts c g [p1 m ρ c]
            ∗ ((c : Thread nD τ).loc cc0_scratch0 ↦{fullShare} (xbF m ρ c : Buf (Elt F) ((c : Thread nD τ).loc cc0_scratch0))) ∗ wPts m ρ c)
          -∗ WP c (kk v) Q)
      -∗ WP c (k0_part2 xM (Memref.isWhole_whole _) wM (Memref.isWhole_whole _) oM (Memref.isWhole_whole _) xbM (Memref.isWhole_whole _)
          wbM (Memref.isWhole_whole _) cmM (Memref.isWhole_whole _) cc0_scratch3 cc0_scratch4 c v2 v13 v24 >>= kk) Q) := by
  rw [k0_part2_eq_skeleton]; unfold k0_part2_skel
  simp only [semSignalWord, semWaitWord, Prog.lift, Prog.bind_op, Prog.bind_ret, Prog.pure_eq_ret]
  iintro #HR #Hlev Ht1 Ht2 HcB HaB HO Hx Hw Ho Hxb Hwb Hcm Hk
  ihave Hcm := (Entails.of_eq (comm_split c f2)) $$ Hcm
  icases Hcm with ⟨Hf, Hb⟩
  iapply (wp_tell m ρ K c _ (prv c) (dev1_eq c) true 9 rfl) $$ HR [Hf] HO Ht1
  · rw [if_pos rfl, nxt_prv]; unfold fwdSlots; iexists f2; iexact Hf
  iintro HO
  iapply (wp_tell m ρ K c _ (nxt c) (dev2_eq c) false 8 rfl) $$ HR [Hb] HO Ht2
  · rw [if_neg Bool.false_ne_true, prv_nxt]; unfold bwdSlots; iexists f2; iexact Hb
  iintro HO
  iapply (wp_load 𝒱₀ (c : Thread nD τ) none Set.univ (m := xM) (Finset.subset_univ _)) $$ Hx; iintro Hx
  iapply (wp_load 𝒱₀ (c : Thread nD τ) none Set.univ (m := xbM) (Finset.subset_univ _)) $$ Hxb; iintro Hxb
  iapply (wp_store 𝒱₀ (c : Thread nD τ) none Set.univ (m := xbM) (r := rX) (Mk := Finset.univ) (Finset.subset_univ _)) $$ Hxb; iintro Hxb
  iapply (wp_load 𝒱₀ (c : Thread nD τ) none Set.univ (m := wM) (Finset.subset_univ _)) $$ Hw; iintro Hw
  iapply (wp_load 𝒱₀ (c : Thread nD τ) none Set.univ (m := wbM) (Finset.subset_univ _)) $$ Hwb; iintro Hwb
  iapply (wp_store 𝒱₀ (c : Thread nD τ) none Set.univ (m := wbM) (r := rW) (Mk := Finset.univ) (Finset.subset_univ _)) $$ Hwb; iintro Hwb
  rw [read_x, read_w, write_xb, write_wb]
  iapply (wp_load 𝒱₀ (c : Thread nD τ) none Set.univ (m := xbM) (Finset.subset_univ _)) $$ Hxb; iintro Hxb
  iapply (wp_load 𝒱₀ (c : Thread nD τ) none Set.univ (m := wbM) (Finset.subset_univ _)) $$ Hwb; iintro Hwb
  rw [read_xb, read_wb]
  ihave Ho := (Entails.of_eq (show (((c : Thread nD τ).loc cc0_stg2_0 ↦{fullShare} g) : sProp 𝕄) = oPts c g [] from rfl)) $$ Ho
  iapply (look_out c g) $$ Ho; iintro Ho
  iapply (put_out c g) $$ Ho; iintro Ho
  iapply (wp_bar m ρ K c) $$ HR Hlev HcB HO HaB
  iintro ⟨HO, Hz, Hbw, Hfw⟩
  iapply Hk
  isplitl [HO]; · iexact HO
  isplitl [Hz]; · iexact Hz
  isplitl [Hbw]; · iexact Hbw
  isplitl [Hfw]; · iexact Hfw
  isplitl [Hx]; · iexact Hx
  isplitl [Hw]; · iexact Hw
  isplitl [Ho]; · unfold p1; iexact Ho
  isplitl [Hxb]; · iexact Hxb
  unfold wPts; iexact Hwb

end Parts

end Cert.RingMatmul

end
-- ==== Proof.Hop.lean ====
/-
# The first hop, and the copies passed on
-/
module

public import proofs.«01_k».proof.Proof.Body

@[expose] public section

noncomputable section

namespace Cert.RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

section Parts
variable (K : Dev nD × Fin 17 → ℕ)

omit [FloatOps F] in
/-- Slot 5 of the predecessor and slot 3 of this device hold the same block. -/
theorem opp_slot (c : Dev nD) : slotDev (prv c) 5 = slotDev c 3 := by revert c; decide

set_option maxHeartbeats 1600000 in
/-- Copies 0 to 3 out of the own block; when slot 0 has landed, copies 4 and 5 pass it on; when slot 3 has landed, copy 6
    passes its first quarter on. -/
theorem hop_part (c : Dev nD) (v13 v24 v61 v13' v24' : BitVec 32)
    {α : Type} {Q : α → sProp 𝕄} {kk : PUnit → Prog (TpuEff nD τ sig (Elt F) Λ₀ .tc) α} :
    records (F := F) m ρ K ⊢ iprop(levAts Lk lvk -∗ debt c 8 -∗ bwdSlots (prv c) -∗ fwdSlots (nxt c)
      -∗ ((c : Thread nD τ).loc cc0_scratch0 ↦{fullShare} (xbF m ρ c : Buf (Elt F) ((c : Thread nD τ).loc cc0_scratch0)))
      -∗ (payTok c 0 ∗ payTok c 1 ∗ payTok c 2 ∗ payTok c 3 ∗ payTok c 4 ∗ payTok c 5 ∗ payTok c 6)
      -∗ (credR c 0 ∗ credR c 2) -∗ (posR c 0 ∗ posR c 2)
      -∗ ((debt c 1 ∗ (credS c 0 ∗ credS c 1 ∗ credS c 2 ∗ credS c 3 ∗ credS c 4 ∗ credS c 5 ∗ credS c 6) ∗ (zeroR c 0 ∗ zeroR c 2)
            ∗ cPts c 0 0 128 fullShare.left (commF m ρ c) ∗ cPts c 3 0 128 fullShare.left (commF m ρ c)
            ∗ cPts c 3 64 128 fullShare.right (commF m ρ c) ∗ (∃ f, cPts (prv c) 5 64 128 fullShare f))
          -∗ WP c (kk ⟨⟩) Q)
      -∗ WP c (k0_part3 xM (Memref.isWhole_whole _) wM (Memref.isWhole_whole _) oM (Memref.isWhole_whole _) xbM (Memref.isWhole_whole _) wbM (Memref.isWhole_whole _) cmM (Memref.isWhole_whole _) cc0_scratch3 cc0_scratch4 c v13 v24 v61 >>= fun _ => k0_part4 xM (Memref.isWhole_whole _) wM (Memref.isWhole_whole _) oM (Memref.isWhole_whole _) xbM (Memref.isWhole_whole _) wbM (Memref.isWhole_whole _) cmM (Memref.isWhole_whole _) cc0_scratch3 cc0_scratch4 c v24' >>= fun _ => k0_part5 xM (Memref.isWhole_whole _) wM (Memref.isWhole_whole _) oM (Memref.isWhole_whole _) xbM (Memref.isWhole_whole _) wbM (Memref.isWhole_whole _) cmM (Memref.isWhole_whole _) cc0_scratch3 cc0_scratch4 c v13' >>= kk) Q) := by
  rw [k0_part3_eq_skeleton, k0_part4_eq_skeleton, k0_part5_eq_skeleton]; unfold k0_part3_skel k0_part4_skel k0_part5_skel
  simp only [Prog.lift, Prog.bind_op, Prog.bind_ret, Prog.pure_eq_ret]
  unfold bwdSlots fwdSlots
  iintro #HR #Hlev HO ⟨%fb, Hb2, Hb3, Hb50, Hb51⟩ ⟨%ff, Hf0, Hf1, Hf40, Hf41⟩ Hxb ⟨Ht0, Ht1, Ht2, Ht3, Ht4, Ht5, Ht6⟩ ⟨HcR0, HcR2⟩ ⟨HpR0, HpR2⟩ Hk
  ihave Hxb := (Entails.of_eq (own_split m ρ c)) $$ Hxb
  icases Hxb with ⟨⟨Hx0l, Hx0r⟩, ⟨Hx1l, Hx1r⟩⟩
  iapply (wp_copy_own m ρ K c _ (nxt c) 0 (dev3_eq c) rfl 7 0 128 0 rfl rfl rfl rfl (by decide) fullShare.left ff rfl rfl (prv_nxt c) rfl)
    $$ HR Hx0l Hf0 HO Ht0
  iintro ⟨HcS0, HO⟩
  iapply (wp_copy_own m ρ K c _ (prv c) 2 (dev4_eq c) rfl 6 128 256 3 rfl rfl rfl rfl (by decide) fullShare.right fb rfl rfl (nxt_prv c) rfl)
    $$ HR Hx1r Hb3 HO Ht2
  iintro ⟨HcS2, HO⟩
  iapply (wp_copy_own m ρ K c _ (nxt c) 1 (dev5_eq c) rfl 5 128 256 1 rfl rfl rfl rfl (by decide) fullShare.left ff rfl rfl (prv_nxt c) rfl)
    $$ HR Hx1l Hf1 HO Ht1
  iintro ⟨HcS1, HO⟩
  iapply (wp_copy_own m ρ K c _ (prv c) 3 (dev6_eq c) rfl 4 0 128 2 rfl rfl rfl rfl (by decide) fullShare.right fb rfl rfl (nxt_prv c) rfl)
    $$ HR Hx0r Hb2 HO Ht3
  iintro ⟨HcS3, HO⟩
  iapply (wp_recv m ρ K c 0 4 (by
      intro x hx
      simp only [dueL, List.take, List.mem_cons, List.not_mem_nil, or_false] at hx
      rcases hx with rfl | rfl | rfl | rfl <;> exact (by decide : 2 < 3)) rfl (cPts c 0 0 128 fullShare (commF m ρ c)) rfl (credit_slot 0 inb_S6x128x1024_S1x128x1024_0_0_0)) $$ HR Hlev HcR0 HO HpR0
  iintro ⟨HO, HzR0, Hs0⟩
  ihave Hs0 := (Entails.of_eq (slot_split c 0 (commF m ρ c))) $$ Hs0
  icases Hs0 with ⟨Hs0, Hq00, Hq01⟩
  iapply (wp_copy_on m ρ K c _ (nxt c) 4 (dev7_eq c) rfl 3 0 4 0 64 rfl rfl rfl rfl (by decide) ff rfl rfl (congrArg prv (prv_nxt c)) rfl (by decide))
    $$ HR Hq00 Hf40 HO Ht4
  iintro ⟨HcS4, HO⟩
  iapply (wp_copy_on m ρ K c _ (nxt c) 5 (dev8_eq c) rfl 2 0 4 64 128 rfl rfl rfl rfl (by decide) ff rfl rfl (congrArg prv (prv_nxt c)) rfl (by decide))
    $$ HR Hq01 Hf41 HO Ht5
  iintro ⟨HcS5, HO⟩
  iapply (wp_recv m ρ K c 2 2 (by
      intro x hx
      simp only [dueL, List.take, List.mem_cons, List.not_mem_nil, or_false] at hx
      rcases hx with rfl | rfl <;> exact (by decide : 2 < 3)) rfl (cPts c 3 0 128 fullShare (commF m ρ c)) rfl (credit_slot 3 inb_S6x128x1024_S1x128x1024_3_0_0)) $$ HR Hlev HcR2 HO HpR2
  iintro ⟨HO, HzR2, Hs3⟩
  ihave Hs3 := (Entails.of_eq (slot_split c 3 (commF m ρ c))) $$ Hs3
  icases Hs3 with ⟨Hs3, Hq30, Hq31⟩
  iapply (wp_copy_on m ρ K c _ (prv c) 6 (dev9_eq c) rfl 1 3 5 0 64 rfl rfl rfl rfl (by decide) fb rfl rfl (opp_slot c) rfl (by decide))
    $$ HR Hq30 Hb50 HO Ht6
  iintro ⟨HcS6, HO⟩
  iapply Hk
  isplitl [HO]; · iexact HO
  isplitl [HcS0 HcS1 HcS2 HcS3 HcS4 HcS5 HcS6]
  · isplitl [HcS0]; · iexact HcS0
    isplitl [HcS1]; · iexact HcS1
    isplitl [HcS2]; · iexact HcS2
    isplitl [HcS3]; · iexact HcS3
    isplitl [HcS4]; · iexact HcS4
    isplitl [HcS5] <;> iassumption
  isplitl [HzR0 HzR2]; · isplitl [HzR0] <;> iassumption
  isplitl [Hs0]; · iexact Hs0
  isplitl [Hs3]; · iexact Hs3
  isplitl [Hq31]; · iexact Hq31
  iexists fb; iexact Hb51

end Parts

end Cert.RingMatmul

end
-- ==== Proof.Work.lean ====
/-
# The rest of the products, as the blocks arrive
-/
module

public import proofs.«01_k».proof.Proof.Hop

@[expose] public section

noncomputable section

namespace Cert.RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- All nine stores, the last first. -/
abbrev pieces (c : Dev nD) : List (Piece' F) :=
  [p9 m ρ c, p8 m ρ c, p7 m ρ c, p6 m ρ c, p5 m ρ c, p4 m ρ c, p3 m ρ c, p2 m ρ c, p1 m ρ c]

section Parts
variable (K : Dev nD × Fin 17 → ℕ)

set_option maxHeartbeats 1600000 in
/-- The last pass, and the products with the blocks that came in, as they land; then the wait for copy 0. -/
theorem work_part (c : Dev nD) (v13 v24 u13 u24 x13 x24 x35 y24 y35 z13 z35 : BitVec 32) (g)
    {α : Type} {Q : α → sProp 𝕄} {kk : PUnit → Prog (TpuEff nD τ sig (Elt F) Λ₀ .tc) α} :
    records (F := F) m ρ K ⊢ iprop(levAts Lk lvk -∗ debt c 1 -∗ (∃ f, cPts (prv c) 5 64 128 fullShare f) -∗ payTok c 7
      -∗ (cPts c 0 0 128 fullShare.left (commF m ρ c) ∗ cPts c 3 0 128 fullShare.left (commF m ρ c) ∗ cPts c 3 64 128 fullShare.right (commF m ρ c))
      -∗ wPts m ρ c -∗ oPts c g [p1 m ρ c]
      -∗ (credR c 1 ∗ credR c 3 ∗ credR c 4 ∗ credR c 5 ∗ credR c 6 ∗ credR c 7) -∗ (posR c 1 ∗ posR c 3 ∗ posR c 4 ∗ posR c 5 ∗ posR c 6 ∗ posR c 7)
      -∗ credS c 0 -∗ posS c 0
      -∗ ((debt c 0 ∗ credS c 7 ∗ (zeroR c 1 ∗ zeroR c 3 ∗ zeroR c 4 ∗ zeroR c 5 ∗ zeroR c 6 ∗ zeroR c 7)
            ∗ (cPts c 0 0 128 fullShare.left (commF m ρ c) ∗ cPts c 3 0 128 fullShare.left (commF m ρ c))
            ∗ (cPts c 1 0 128 fullShare (commF m ρ c) ∗ cPts c 2 0 128 fullShare (commF m ρ c))
            ∗ (cPts c 4 0 64 fullShare (commF m ρ c) ∗ cPts c 4 64 128 fullShare (commF m ρ c))
            ∗ (cPts c 5 0 64 fullShare (commF m ρ c) ∗ cPts c 5 64 128 fullShare (commF m ρ c))
            ∗ wPts m ρ c ∗ oPts c g (pieces m ρ c) ∗ zeroS c 0 ∗ xPts m ρ c 0 128 fullShare.left)
          -∗ WP c (kk ⟨⟩) Q)
      -∗ WP c (k0_part6 xM (Memref.isWhole_whole _) wM (Memref.isWhole_whole _) oM (Memref.isWhole_whole _) xbM (Memref.isWhole_whole _) wbM (Memref.isWhole_whole _) cmM (Memref.isWhole_whole _) cc0_scratch3 cc0_scratch4 c v13 v24 >>= fun s => k0_part7 xM (Memref.isWhole_whole _) wM (Memref.isWhole_whole _) oM (Memref.isWhole_whole _) xbM (Memref.isWhole_whole _) wbM (Memref.isWhole_whole _) cmM (Memref.isWhole_whole _) cc0_scratch3 cc0_scratch4 c u13 u24 s.1 s.2.1 s.2.2 >>= fun v => k0_part8 xM (Memref.isWhole_whole _) wM (Memref.isWhole_whole _) oM (Memref.isWhole_whole _) xbM (Memref.isWhole_whole _) wbM (Memref.isWhole_whole _) cmM (Memref.isWhole_whole _) cc0_scratch3 cc0_scratch4 c x13 x24 x35 v
          >>= fun _ => k0_part9 xM (Memref.isWhole_whole _) wM (Memref.isWhole_whole _) oM (Memref.isWhole_whole _) xbM (Memref.isWhole_whole _) wbM (Memref.isWhole_whole _) cmM (Memref.isWhole_whole _) cc0_scratch3 cc0_scratch4 c y24 y35 >>= fun v => k0_part10 xM (Memref.isWhole_whole _) wM (Memref.isWhole_whole _) oM (Memref.isWhole_whole _) xbM (Memref.isWhole_whole _) wbM (Memref.isWhole_whole _) cmM (Memref.isWhole_whole _) cc0_scratch3 cc0_scratch4 c z13 z35 v >>= kk) Q) := by
  rw [k0_part6_eq_skeleton, k0_part7_eq_skeleton, k0_part8_eq_skeleton, k0_part9_eq_skeleton, k0_part10_eq_skeleton]
  unfold k0_part6_skel k0_part7_skel k0_part8_skel k0_part9_skel k0_part10_skel
  simp only [Prog.lift, Prog.bind_op, Prog.bind_ret, Prog.pure_eq_ret]
  iintro #HR #Hlev HO ⟨%fb, Hb51⟩ Ht7 ⟨Hs0, Hs3, Hq31⟩ Hw Ho ⟨HcR1, HcR3, HcR4, HcR5, HcR6, HcR7⟩ ⟨HpR1, HpR3, HpR4, HpR5, HpR6, HpR7⟩ HcS0 HpS0 Hk
  iapply (wp_copy_on m ρ K c _ (prv c) 7 (dev10_eq c) rfl 0 3 5 64 128 rfl rfl rfl rfl (by decide) fb rfl rfl (opp_slot c) rfl (by decide))
    $$ HR Hq31 Hb51 HO Ht7
  iintro ⟨HcS7, HO⟩
  iapply (look_slot m ρ c 0 inb_S6x128x1024_S1x128x1024_0_0_0 fullShare.left) $$ Hs0; iintro Hs0
  iapply (look_w m ρ c) $$ Hw; iintro Hw
  iapply (look_out c g) $$ Ho; iintro Ho
  iapply (put_out c g) $$ Ho; iintro Ho
  iapply (wp_recv m ρ K c 1 0 (fun x hx => absurd hx List.not_mem_nil) rfl (cPts c 1 0 128 fullShare (commF m ρ c)) rfl (credit_slot 1 inb_S6x128x1024_S1x128x1024_1_0_0))
    $$ HR Hlev HcR1 HO HpR1
  iintro ⟨HO, HzR1, Hs1⟩
  iapply (look_slot m ρ c 1 inb_S6x128x1024_S1x128x1024_1_0_0 fullShare) $$ Hs1; iintro Hs1
  iapply (look_w m ρ c) $$ Hw; iintro Hw
  iapply (look_out c g) $$ Ho; iintro Ho
  iapply (put_out c g) $$ Ho; iintro Ho
  iapply (look_slot m ρ c 3 inb_S6x128x1024_S1x128x1024_3_0_0 fullShare.left) $$ Hs3; iintro Hs3
  iapply (look_w m ρ c) $$ Hw; iintro Hw
  iapply (look_out c g) $$ Ho; iintro Ho
  iapply (put_out c g) $$ Ho; iintro Ho
  iapply (wp_recv m ρ K c 3 0 (fun x hx => absurd hx List.not_mem_nil) rfl (cPts c 2 0 128 fullShare (commF m ρ c)) rfl (credit_slot 2 inb_S6x128x1024_S1x128x1024_2_0_0))
    $$ HR Hlev HcR3 HO HpR3
  iintro ⟨HO, HzR3, Hs2⟩
  iapply (look_slot m ρ c 2 inb_S6x128x1024_S1x128x1024_2_0_0 fullShare) $$ Hs2; iintro Hs2
  iapply (look_w m ρ c) $$ Hw; iintro Hw
  iapply (look_out c g) $$ Ho; iintro Ho
  iapply (put_out c g) $$ Ho; iintro Ho
  iapply (wp_recv m ρ K c 4 0 (fun x hx => absurd hx List.not_mem_nil) rfl (cPts c 4 0 64 fullShare (commF m ρ c)) rfl (credit_qtr 4 0 inb_S6x128x1024_S1x64x1024_4_0_0))
    $$ HR Hlev HcR4 HO HpR4
  iintro ⟨HO, HzR4, Hq40⟩
  iapply (look_qtr m ρ c 4 0 64 rfl inb_S6x128x1024_S1x64x1024_4_0_0) $$ Hq40; iintro Hq40
  iapply (look_w m ρ c) $$ Hw; iintro Hw
  iapply (look_out c g) $$ Ho; iintro Ho
  iapply (put_out c g) $$ Ho; iintro Ho
  iapply (wp_recv m ρ K c 6 0 (fun x hx => absurd hx List.not_mem_nil) rfl (cPts c 5 0 64 fullShare (commF m ρ c)) rfl (credit_qtr 5 0 inb_S6x128x1024_S1x64x1024_5_0_0))
    $$ HR Hlev HcR6 HO HpR6
  iintro ⟨HO, HzR6, Hq50⟩
  iapply (look_qtr m ρ c 5 0 64 rfl inb_S6x128x1024_S1x64x1024_5_0_0) $$ Hq50; iintro Hq50
  iapply (look_w m ρ c) $$ Hw; iintro Hw
  iapply (look_out c g) $$ Ho; iintro Ho
  iapply (put_out c g) $$ Ho; iintro Ho
  iapply (wp_recv m ρ K c 5 0 (fun x hx => absurd hx List.not_mem_nil) rfl (cPts c 4 64 128 fullShare (commF m ρ c)) rfl (credit_qtr 4 64 inb_S6x128x1024_S1x64x1024_4_64_0))
    $$ HR Hlev HcR5 HO HpR5
  iintro ⟨HO, HzR5, Hq464⟩
  iapply (look_qtr m ρ c 4 64 128 rfl inb_S6x128x1024_S1x64x1024_4_64_0) $$ Hq464; iintro Hq464
  iapply (look_w m ρ c) $$ Hw; iintro Hw
  iapply (look_out c g) $$ Ho; iintro Ho
  iapply (put_out c g) $$ Ho; iintro Ho
  iapply (wp_recv m ρ K c 7 0 (fun x hx => absurd hx List.not_mem_nil) rfl (cPts c 5 64 128 fullShare (commF m ρ c)) rfl (credit_qtr 5 64 inb_S6x128x1024_S1x64x1024_5_64_0))
    $$ HR Hlev HcR7 HO HpR7
  iintro ⟨HO, HzR7, Hq564⟩
  iapply (look_qtr m ρ c 5 64 128 rfl inb_S6x128x1024_S1x64x1024_5_64_0) $$ Hq564; iintro Hq564
  iapply (look_w m ρ c) $$ Hw; iintro Hw
  iapply (look_out c g) $$ Ho; iintro Ho
  iapply (put_out c g) $$ Ho; iintro Ho
  iapply (wp_sent m ρ K c 0 rfl (xPts m ρ c 0 128 fullShare.left) rfl (credit_half 0 inb_S256x1024_S128x1024_0_0)) $$ HR HcS0 HO HpS0
  iintro ⟨HO, HzS0, Hx0⟩
  iapply Hk
  isplitl [HO]; · iexact HO
  isplitl [HcS7]; · iexact HcS7
  isplitl [HzR1 HzR3 HzR4 HzR5 HzR6 HzR7]
  · isplitl [HzR1]; · iexact HzR1
    isplitl [HzR3]; · iexact HzR3
    isplitl [HzR4]; · iexact HzR4
    isplitl [HzR5]; · iexact HzR5
    isplitl [HzR6] <;> iassumption
  isplitl [Hs0 Hs3]; · isplitl [Hs0] <;> iassumption
  isplitl [Hs1 Hs2]; · isplitl [Hs1] <;> iassumption
  isplitl [Hq40 Hq464]; · isplitl [Hq40] <;> iassumption
  isplitl [Hq50 Hq564]; · isplitl [Hq50] <;> iassumption
  isplitl [Hw]; · iexact Hw
  isplitl [Ho]; · unfold pieces p1 p2 p3 p4 p5 p6 p7 p8 p9; iexact Ho
  isplitl [HzS0] <;> iassumption

end Parts

end Cert.RingMatmul

end
-- ==== Proof.Out.lean ====
/-
# Where the nine stores land, and what they leave
-/
module

public import proofs.«01_k».proof.Proof.Work

@[expose] public section

noncomputable section

namespace Cert.RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The rows of each store -/

/-- The own block's product is stored at the device's own rows. -/
theorem at1 (c : Dev nD) : k0_off1 c = ![256 * c.val + 0, 0] := by revert c; decide +kernel
/-- The second store is at the first half of the predecessor's rows, -/
theorem at2 (c : Dev nD) : k0_off2 c = ![256 * (prv c).val + 0, 0] := by revert c; decide +kernel
/-- the third at the second half of them, -/
theorem at3 (c : Dev nD) : k0_off3 c = ![256 * (prv c).val + 128, 0] := by revert c; decide +kernel
/-- the fourth at the second half of the successor's rows, -/
theorem at4 (c : Dev nD) : k0_off4 c = ![256 * (nxt c).val + 128, 0] := by revert c; decide +kernel
/-- the fifth at the first half of them, -/
theorem at5 (c : Dev nD) : k0_off5 c = ![256 * (nxt c).val + 0, 0] := by revert c; decide +kernel
/-- the sixth at the opposite device's first quarter, -/
theorem at6 (c : Dev nD) : k0_off6 c = ![256 * (prv (prv c)).val + 0, 0] := by revert c; decide +kernel
/-- the seventh at its third quarter, -/
theorem at7 (c : Dev nD) : k0_off7 c 128#32 = ![256 * (prv (prv c)).val + 128, 0] := by revert c; decide +kernel
/-- the eighth at its second quarter, -/
theorem at8 (c : Dev nD) : k0_off7 c 64#32 = ![256 * (prv (prv c)).val + 64, 0] := by revert c; decide +kernel
/-- and the ninth at its last. -/
theorem at9 (c : Dev nD) : k0_off8 c = ![256 * (prv (prv c)).val + 192, 0] := by revert c; decide +kernel

/-- Membership in a band of whole rows. -/
theorem mem_rows {n a : ℕ} (o : Fin 2 → ℕ) (h) (ho : o = ![a, 0]) (y : S1024x256.Idx) :
    y ∈ (Rect.unit (s := S1024x256) o ![n, 256] h).set ↔ a ≤ (y 0).val ∧ (y 0).val < a + n := by
  subst ho
  have h1 : (y 1).val < 256 := (y 1).isLt
  rw [Rect.mem_set_unit, Fin.forall_fin_two]
  show (a ≤ (y 0).val ∧ (y 0).val < a + n) ∧ (0 ≤ (y 1).val ∧ (y 1).val < 0 + 256) ↔ _
  omega

/-- The rows of store 1. -/
theorem mem_p1 (c : Dev nD) (y : S1024x256.Idx) : y ∈ (p1 m ρ c).1.set ↔ 256 * c.val + 0 ≤ (y 0).val ∧ (y 0).val < 256 * c.val + 0 + 256 :=
  mem_rows _ (k0_off1_inb c) (at1 c) y
/-- The rows of store 2. -/
theorem mem_p2 (c : Dev nD) (y : S1024x256.Idx) : y ∈ (p2 m ρ c).1.set ↔ 256 * (prv c).val + 0 ≤ (y 0).val ∧ (y 0).val < 256 * (prv c).val + 0 + 128 :=
  mem_rows _ (k0_off2_inb c) (at2 c) y
/-- The rows of store 3. -/
theorem mem_p3 (c : Dev nD) (y : S1024x256.Idx) : y ∈ (p3 m ρ c).1.set ↔ 256 * (prv c).val + 128 ≤ (y 0).val ∧ (y 0).val < 256 * (prv c).val + 128 + 128 :=
  mem_rows _ (k0_off3_inb c) (at3 c) y
/-- The rows of store 4. -/
theorem mem_p4 (c : Dev nD) (y : S1024x256.Idx) : y ∈ (p4 m ρ c).1.set ↔ 256 * (nxt c).val + 128 ≤ (y 0).val ∧ (y 0).val < 256 * (nxt c).val + 128 + 128 :=
  mem_rows _ (k0_off4_inb c) (at4 c) y
/-- The rows of store 5. -/
theorem mem_p5 (c : Dev nD) (y : S1024x256.Idx) : y ∈ (p5 m ρ c).1.set ↔ 256 * (nxt c).val + 0 ≤ (y 0).val ∧ (y 0).val < 256 * (nxt c).val + 0 + 128 :=
  mem_rows _ (k0_off5_inb c) (at5 c) y
/-- The rows of store 6. -/
theorem mem_p6 (c : Dev nD) (y : S1024x256.Idx) : y ∈ (p6 m ρ c).1.set ↔ 256 * (prv (prv c)).val + 0 ≤ (y 0).val ∧ (y 0).val < 256 * (prv (prv c)).val + 0 + 64 :=
  mem_rows _ (k0_off6_inb c) (at6 c) y
/-- The rows of store 7. -/
theorem mem_p7 (c : Dev nD) (y : S1024x256.Idx) : y ∈ (p7 m ρ c).1.set ↔ 256 * (prv (prv c)).val + 128 ≤ (y 0).val ∧ (y 0).val < 256 * (prv (prv c)).val + 128 + 64 :=
  mem_rows _ (k0_off7_inb c 1) (at7 c) y
/-- The rows of store 8. -/
theorem mem_p8 (c : Dev nD) (y : S1024x256.Idx) : y ∈ (p8 m ρ c).1.set ↔ 256 * (prv (prv c)).val + 64 ≤ (y 0).val ∧ (y 0).val < 256 * (prv (prv c)).val + 64 + 64 :=
  mem_rows _ (k0_off7_inb c 0) (at8 c) y
/-- The rows of store 9. -/
theorem mem_p9 (c : Dev nD) (y : S1024x256.Idx) : y ∈ (p9 m ρ c).1.set ↔ 256 * (prv (prv c)).val + 192 ≤ (y 0).val ∧ (y 0).val < 256 * (prv (prv c)).val + 192 + 64 :=
  mem_rows _ (k0_off8_inb c) (at9 c) y

/-- Every row is in the device's own block or in one of the other three. -/
theorem owner (c : Dev nD) (a : ℕ) (h : a < 1024) :
    a / 256 = c.val ∨ a / 256 = (prv c).val ∨ a / 256 = (nxt c).val ∨ a / 256 = (prv (prv c)).val := by
  have h' : a / 256 < 4 := by omega
  generalize a / 256 = b at h'
  revert c
  exact (by decide : ∀ b < 4, ∀ c : Dev nD, b = c.val ∨ b = (prv c).val ∨ b = (nxt c).val ∨ b = (prv (prv c)).val) b h'

/-- The nine stores fill the result. -/
theorem cover (c : Dev nD) (y : S1024x256.Idx) : ∃ p ∈ pieces m ρ c, y ∈ p.1.set := by
  have h0 : (y 0).val < 1024 := (y 0).isLt
  have ho := owner c _ h0
  by_cases h1 : 256 * c.val + 0 ≤ (y 0).val ∧ (y 0).val < 256 * c.val + 0 + 256
  · exact ⟨p1 m ρ c, by simp only [pieces, List.mem_cons, true_or, or_true], (mem_p1 m ρ c y).2 h1⟩
  by_cases h2 : 256 * (prv c).val + 0 ≤ (y 0).val ∧ (y 0).val < 256 * (prv c).val + 0 + 128
  · exact ⟨p2 m ρ c, by simp only [pieces, List.mem_cons, true_or, or_true], (mem_p2 m ρ c y).2 h2⟩
  by_cases h3 : 256 * (prv c).val + 128 ≤ (y 0).val ∧ (y 0).val < 256 * (prv c).val + 128 + 128
  · exact ⟨p3 m ρ c, by simp only [pieces, List.mem_cons, true_or, or_true], (mem_p3 m ρ c y).2 h3⟩
  by_cases h4 : 256 * (nxt c).val + 128 ≤ (y 0).val ∧ (y 0).val < 256 * (nxt c).val + 128 + 128
  · exact ⟨p4 m ρ c, by simp only [pieces, List.mem_cons, true_or, or_true], (mem_p4 m ρ c y).2 h4⟩
  by_cases h5 : 256 * (nxt c).val + 0 ≤ (y 0).val ∧ (y 0).val < 256 * (nxt c).val + 0 + 128
  · exact ⟨p5 m ρ c, by simp only [pieces, List.mem_cons, true_or, or_true], (mem_p5 m ρ c y).2 h5⟩
  by_cases h6 : 256 * (prv (prv c)).val + 0 ≤ (y 0).val ∧ (y 0).val < 256 * (prv (prv c)).val + 0 + 64
  · exact ⟨p6 m ρ c, by simp only [pieces, List.mem_cons, true_or, or_true], (mem_p6 m ρ c y).2 h6⟩
  by_cases h7 : 256 * (prv (prv c)).val + 128 ≤ (y 0).val ∧ (y 0).val < 256 * (prv (prv c)).val + 128 + 64
  · exact ⟨p7 m ρ c, by simp only [pieces, List.mem_cons, true_or, or_true], (mem_p7 m ρ c y).2 h7⟩
  by_cases h8 : 256 * (prv (prv c)).val + 64 ≤ (y 0).val ∧ (y 0).val < 256 * (prv (prv c)).val + 64 + 64
  · exact ⟨p8 m ρ c, by simp only [pieces, List.mem_cons, true_or, or_true], (mem_p8 m ρ c y).2 h8⟩
  by_cases h9 : 256 * (prv (prv c)).val + 192 ≤ (y 0).val ∧ (y 0).val < 256 * (prv (prv c)).val + 192 + 64
  · exact ⟨p9 m ρ c, by simp only [pieces, List.mem_cons, true_or, or_true], (mem_p9 m ρ c y).2 h9⟩
  omega

/-- The result's staging buffer when the body is done. -/
def outF (c : Dev nD) : (cc0_stg2_0 : Ref sig .tc).ty.Contents (Elt F) :=
  oM.view.writes (Elt F) (fun _ => Scalar.ofBits .f32 0x00000000#32) (pieces m ρ c)

/-- What it held before makes no difference. -/
theorem outF_eq (c : Dev nD) (g : (cc0_stg2_0 : Ref sig .tc).ty.Contents (Elt F)) : oM.view.writes (Elt F) g (pieces m ρ c) = outF m ρ c := by
  have e (a b : (cc0_stg2_0 : Ref sig .tc).ty.Contents (Elt F)) (h : oM.view.read (Elt F) a = oM.view.read (Elt F) b) : a = b := by
    simpa only [Memref.view_whole, View.read_whole] using h
  unfold outF
  exact e _ _ (View.read_writes_of_cover (Val := Elt F) oM.view g oM.view (fun _ => Scalar.ofBits .f32 0x00000000#32) (pieces m ρ c) (cover m ρ c))

end Cert.RingMatmul

end
-- ==== Proof.Device.lean ====
/-
# One device's run, from what it starts with to what it leaves
-/
module

public import proofs.«01_k».proof.Proof.Out

@[expose] public section

noncomputable section

namespace Cert.RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## What a device starts with and leaves -/

omit [FloatOps F] in
/-- Eight conjuncts, written out. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The rights to pay: both neighbours' barriers, and the two duties of each copy. -/
def payToks (c : Dev nD) : sProp 𝕄 :=
  iprop(dutyTok ER (barCell (prv c)) 0 true ∗ dutyTok ER (barCell (nxt c)) 0 false ∗ bigSep Finset.univ fun t => payTok c t)
/-- The positions at its own 17 cells. -/
def places (c : Dev nD) : sProp 𝕄 :=
  iprop(atPos ER (barCell c) 0 ∅ 0 ∗ (bigSep Finset.univ fun t => posS c t) ∗ bigSep Finset.univ fun t => posR c t)
/-- The credits to wait with: two units of its barrier, and each arrival. -/
def arrivals (c : Dev nD) : sProp 𝕄 := iprop(cred (tallyAt (barCell c) 1 2) ∗ bigSep Finset.univ fun t => credR c t)
/-- All its 17 cells at zero. -/
def closed (c : Dev nD) : sProp 𝕄 :=
  iprop(semVal (barCell c) 0 ∗ (bigSep Finset.univ fun t => zeroS c t) ∗ bigSep Finset.univ fun t => zeroR c t)
/-- The three scratch buffers, at some contents. -/
def scratch (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))

/-- What device `c`'s body starts from, at some names of the cells' invariants, -/
def start (c : Dev nD) : sProp 𝕄 := iprop((∃ K, records (F := F) m ρ K ∗ places c ∗ payToks c) ∗ arrivals c ∗ levAts Lk lvk)
/-- What the body starts from, with the scratch buffers that the call hands it, -/
def Φ₀ (c : Dev nD) : sProp 𝕄 := iprop(start m ρ c ∗ scratch c)
/-- and what it leaves. -/
def Φ₁ (c : Dev nD) : sProp 𝕄 := iprop(scratch (F := F) c ∗ closed c)

/-- The pipeline's proof data: the two inputs stay, the result's buffer is `outF`; the debts are paid in the one point. -/
def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outF m ρ c
  Φ t := match t with
    | ⟨0, _⟩ => Φ₀ m ρ c
    | ⟨_ + 1, _⟩ => Φ₁ c
  q _ := fullShare
  owed t := match t with
    | ⟨0, _⟩ => owed c 10
    | ⟨_ + 1, _⟩ => 0

/-- Owning a whole buffer at contents `X` is holding all of it at them. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

/-! ## The end -/

section Parts
variable (K : Dev nD × Fin 17 → ℕ)

set_option maxHeartbeats 1600000 in
/-- The waits for copies 1 to 4. -/
theorem end_part (c : Dev nD) {α : Type} {Q : α → sProp 𝕄} {kk : PUnit → Prog (TpuEff nD τ sig (Elt F) Λ₀ .tc) α} :
    records (F := F) m ρ K ⊢ iprop(debt c 0 -∗ (credS c 1 ∗ credS c 2 ∗ credS c 3 ∗ credS c 4) -∗ (posS c 1 ∗ posS c 2 ∗ posS c 3 ∗ posS c 4)
      -∗ ((debt c 0 ∗ (zeroS c 1 ∗ zeroS c 2 ∗ zeroS c 3 ∗ zeroS c 4)
            ∗ xPts m ρ c 128 256 fullShare.left ∗ xPts m ρ c 128 256 fullShare.right ∗ xPts m ρ c 0 128 fullShare.right ∗ cPts c 0 0 64 fullShare.right (commF m ρ c)) -∗ WP c (kk ⟨⟩) Q)
      -∗ WP c (k0_part11 xM (Memref.isWhole_whole _) wM (Memref.isWhole_whole _) oM (Memref.isWhole_whole _) xbM (Memref.isWhole_whole _) wbM (Memref.isWhole_whole _) cmM (Memref.isWhole_whole _) cc0_scratch3 cc0_scratch4 >>= kk) Q) := by
  rw [k0_part11_eq_skeleton]; unfold k0_part11_skel
  simp only [Prog.lift, Prog.bind_op, Prog.bind_ret, Prog.pure_eq_ret]
  iintro #HR HO ⟨HcS1, HcS2, HcS3, HcS4⟩ ⟨HpS1, HpS2, HpS3, HpS4⟩ Hk
  iapply (wp_sent m ρ K c 1 rfl (xPts m ρ c 128 256 fullShare.left) rfl (credit_half 128 inb_S256x1024_S128x1024_128_0)) $$ HR HcS1 HO HpS1
  iintro ⟨HO, HzS1, Hp1⟩
  iapply (wp_sent m ρ K c 2 rfl (xPts m ρ c 128 256 fullShare.right) rfl (credit_half 128 inb_S256x1024_S128x1024_128_0)) $$ HR HcS2 HO HpS2
  iintro ⟨HO, HzS2, Hp2⟩
  iapply (wp_sent m ρ K c 3 rfl (xPts m ρ c 0 128 fullShare.right) rfl (credit_half 0 inb_S256x1024_S128x1024_0_0)) $$ HR HcS3 HO HpS3
  iintro ⟨HO, HzS3, Hp3⟩
  iapply (wp_sent m ρ K c 4 rfl (cPts c 0 0 64 fullShare.right (commF m ρ c)) rfl (credit_qtr 0 0 inb_S6x128x1024_S1x64x1024_0_0_0)) $$ HR HcS4 HO HpS4
  iintro ⟨HO, HzS4, Hp4⟩
  iapply Hk
  isplitl [HO]; · iexact HO
  isplitl [HzS1 HzS2 HzS3 HzS4]
  · isplitl [HzS1]; · iexact HzS1
    isplitl [HzS2]; · iexact HzS2
    isplitl [HzS3] <;> iassumption
  isplitl [Hp1]; · iexact Hp1
  isplitl [Hp2]; · iexact Hp2
  isplitl [Hp3] <;> iassumption

/-- What the pipeline asks of the body at its end: the inputs as staged, the result's buffer at the nine stores, nothing owed. -/
def bodyPost (c : Dev nD) : sProp 𝕄 :=
  iprop(Φ₁ c ∗ (dats m ρ 0 c).owesAt 0 t0_0.succ ∗ stg c cc0_stg0_0 (xstg m ρ c) ∗ stg c cc0_stg1_0 (wstg m ρ c) ∗ stg c cc0_stg2_0 (outF m ρ c))

/-- Everything landed and everything sent is back: the landing buffer and the own block are whole again. -/
theorem rejoin (c : Dev nD) :
    iprop((cPts c 0 0 128 fullShare.left (commF m ρ c) ∗ cPts c 3 0 128 fullShare.left (commF m ρ c))
        ∗ (cPts c 1 0 128 fullShare (commF m ρ c) ∗ cPts c 2 0 128 fullShare (commF m ρ c))
        ∗ (cPts c 4 0 64 fullShare (commF m ρ c) ∗ cPts c 4 64 128 fullShare (commF m ρ c))
        ∗ (cPts c 5 0 64 fullShare (commF m ρ c) ∗ cPts c 5 64 128 fullShare (commF m ρ c))
        ∗ wPts m ρ c
        ∗ xPts m ρ c 0 128 fullShare.left ∗ xPts m ρ c 128 256 fullShare.left ∗ xPts m ρ c 128 256 fullShare.right ∗ xPts m ρ c 0 128 fullShare.right ∗ cPts c 0 0 64 fullShare.right (commF m ρ c) ∗ cPts c 0 64 128 fullShare.right (commF m ρ c) ∗ cPts c 3 0 64 fullShare.right (commF m ρ c) ∗ cPts c 3 64 128 fullShare.right (commF m ρ c)) ⊢ scratch (F := F) c := by
  unfold scratch wPts
  iintro ⟨⟨H0, H3⟩, ⟨H1, H2⟩, ⟨H40, H41⟩, ⟨H50, H51⟩, Hw, Hp0, Hp1, Hp2, Hp3, Hp4, Hp5, Hp6, Hp7⟩
  isplitl [Hp0 Hp1 Hp2 Hp3]
  · iexists (xbF m ρ c)
    iapply (Entails.of_eq (own_split m ρ c).symm)
    isplitl [Hp0 Hp3]; · isplitl [Hp0] <;> iassumption
    isplitl [Hp1] <;> iassumption
  isplitl [Hw]; · iexists (wbF m ρ c); iexact Hw
  iexists (commF m ρ c)
  iapply (Entails.of_eq (comm_split c (commF m ρ c)).symm)
  isplitl [H0 H1 H40 H41 Hp4 Hp5]
  · isplitl [H0 Hp4 Hp5]
    · iapply (Entails.of_eq (slot_split c 0 (commF m ρ c)).symm)
      isplitl [H0]; · iexact H0
      isplitl [Hp4] <;> iassumption
    isplitl [H1]; · iexact H1
    isplitl [H40] <;> iassumption
  isplitl [H2]; · iexact H2
  isplitl [H3 Hp6 Hp7]
  · iapply (Entails.of_eq (slot_split c 3 (commF m ρ c)).symm)
    isplitl [H3]; · iexact H3
    isplitl [Hp6] <;> iassumption
  isplitl [H50] <;> iassumption

set_option maxHeartbeats 3200000 in
/-- The body on device `c`: the groups one after another. -/
theorem sound_body (c : Dev nD) (g0 g1 g2) (W) (hx : g0 = xstg m ρ c) (hw : g1 = wstg m ρ c) (Kt : PUnit → sProp 𝕄) :
    records (F := F) m ρ K ⊢ iprop(levAts Lk lvk -∗ places c -∗ payToks c -∗ arrivals c -∗ scratch c
      -∗ owes (c : Thread nD τ) (owed c 10) W
      -∗ ((c : Thread nD τ).loc cc0_stg0_0 ↦{fullShare} g0) -∗ ((c : Thread nD τ).loc cc0_stg1_0 ↦{fullShare} g1)
      -∗ ((c : Thread nD τ).loc cc0_stg2_0 ↦{fullShare} g2)
      -∗ (bodyPost m ρ c -∗ Kt ⟨⟩)
      -∗ WP c (cc0_body xM (Memref.isWhole_whole _) wM (Memref.isWhole_whole _) oM (Memref.isWhole_whole _) xbM (Memref.isWhole_whole _) wbM (Memref.isWhole_whole _) cmM (Memref.isWhole_whole _) cc0_scratch3 cc0_scratch4) Kt) := by
  subst hx hw
  simp only [cc0_body_eq_skeleton]; unfold cc0_body_skel
  simp only [k0_part1_eq_skeleton, k0_part1_skel, Prog.lift, Prog.bind_op, Prog.bind_ret, Prog.pure_eq_ret, wp_deviceId]
  unfold places payToks arrivals scratch
  simp only [bigSep_fin8]
  iintro #HR #Hlev ⟨HaB, ⟨HpS0, HpS1, HpS2, HpS3, HpS4, HpS5, HpS6, HpS7⟩, ⟨HpR0, HpR1, HpR2, HpR3, HpR4, HpR5, HpR6, HpR7⟩⟩
    ⟨HtP, HtN, Ht0, Ht1, Ht2, Ht3, Ht4, Ht5, Ht6, Ht7⟩ ⟨HcB, HcR0, HcR1, HcR2, HcR3, HcR4, HcR5, HcR6, HcR7⟩
    ⟨⟨%f0, Hxb⟩, ⟨%f1, Hwb⟩, ⟨%f2, Hcm⟩⟩ HO Hx Hw Ho Hk
  ihave HO := (show owes (c : Thread nD τ) (owed c 10) W ⊢ (debt c 10 : sProp 𝕄) from by
    unfold debt; iintro H; iexists W; iexact H) $$ HO
  iapply (start_part m ρ K c _ _ _ f0 f1 f2 g2) $$ HR Hlev HtP HtN HcB HaB HO Hx Hw Ho Hxb Hwb Hcm
  iintro %v ⟨HO, HzB, Hbw, Hfw, Hx, Hw, Ho, Hxb, Hwb⟩
  iapply (hop_part m ρ K c _ _ _ _ _) $$ HR Hlev HO Hbw Hfw Hxb [Ht0 Ht1 Ht2 Ht3 Ht4 Ht5 Ht6] [HcR0 HcR2] [HpR0 HpR2]
  · isplitl [Ht0]; · iexact Ht0
    isplitl [Ht1]; · iexact Ht1
    isplitl [Ht2]; · iexact Ht2
    isplitl [Ht3]; · iexact Ht3
    isplitl [Ht4]; · iexact Ht4
    isplitl [Ht5] <;> iassumption
  · isplitl [HcR0] <;> iassumption
  · isplitl [HpR0] <;> iassumption
  iintro ⟨HO, ⟨HcS0, HcS1, HcS2, HcS3, HcS4, HcS5, HcS6⟩, ⟨HzR0, HzR2⟩, Hs0, Hs3, Hq31, Hb51⟩
  iapply (work_part m ρ K c _ _ _ _ _ _ _ _ _ _ _ g2) $$ HR Hlev HO Hb51 Ht7 [Hs0 Hs3 Hq31] Hwb Ho [HcR1 HcR3 HcR4 HcR5 HcR6 HcR7]
    [HpR1 HpR3 HpR4 HpR5 HpR6 HpR7] HcS0 HpS0
  · isplitl [Hs0]; · iexact Hs0
    isplitl [Hs3] <;> iassumption
  · isplitl [HcR1]; · iexact HcR1
    isplitl [HcR3]; · iexact HcR3
    isplitl [HcR4]; · iexact HcR4
    isplitl [HcR5]; · iexact HcR5
    isplitl [HcR6] <;> iassumption
  · isplitl [HpR1]; · iexact HpR1
    isplitl [HpR3]; · iexact HpR3
    isplitl [HpR4]; · iexact HpR4
    isplitl [HpR5]; · iexact HpR5
    isplitl [HpR6] <;> iassumption
  iintro ⟨HO, HcS7, ⟨HzR1, HzR3, HzR4, HzR5, HzR6, HzR7⟩, H03, H12, H4, H5, Hwb, Ho, HzS0, Hp0⟩
  iapply (end_part m ρ K c) $$ HR HO [HcS1 HcS2 HcS3 HcS4] [HpS1 HpS2 HpS3 HpS4]
  · isplitl [HcS1]; · iexact HcS1
    isplitl [HcS2]; · iexact HcS2
    isplitl [HcS3] <;> iassumption
  · isplitl [HpS1]; · iexact HpS1
    isplitl [HpS2]; · iexact HpS2
    isplitl [HpS3] <;> iassumption
  iintro ⟨HO, ⟨HzS1, HzS2, HzS3, HzS4⟩, Hp1, Hp2, Hp3, Hp4⟩
  iapply (wp_sent m ρ K c 5 rfl (cPts c 0 64 128 fullShare.right (commF m ρ c)) rfl (credit_qtr 0 64 inb_S6x128x1024_S1x64x1024_0_64_0)) $$ HR HcS5 HO HpS5
  iintro ⟨HO, HzS5, Hp5⟩
  iapply (wp_sent m ρ K c 6 rfl (cPts c 3 0 64 fullShare.right (commF m ρ c)) rfl (credit_qtr 3 0 inb_S6x128x1024_S1x64x1024_3_0_0)) $$ HR HcS6 HO HpS6
  iintro ⟨HO, HzS6, Hp6⟩
  iapply (wp_sent m ρ K c 7 rfl (cPts c 3 64 128 fullShare.right (commF m ρ c)) rfl (credit_qtr 3 64 inb_S6x128x1024_S1x64x1024_3_64_0)) $$ HR HcS7 HO HpS7
  iintro ⟨HO, HzS7, Hp7⟩
  unfold WP; rw [wp_ret]; imodintro
  iapply Hk
  unfold bodyPost Φ₁ closed debt Pipeline.Dat.owesAt Pipeline.owesWithin oPts
  simp only [bigSep_fin8]
  rw [show (dats m ρ 0 c).owed t0_0.succ = 0 from rfl, outF_eq]
  isplitl [HzB HzS0 HzS1 HzS2 HzS3 HzS4 HzS5 HzS6 HzS7 HzR0 HzR1 HzR2 HzR3 HzR4 HzR5 HzR6 HzR7 H03 H12 H4 H5 Hwb Hp0 Hp1 Hp2 Hp3 Hp4 Hp5 Hp6 Hp7]
  · isplitl [H03 H12 H4 H5 Hwb Hp0 Hp1 Hp2 Hp3 Hp4 Hp5 Hp6 Hp7]
    · iapply (rejoin m ρ c)
      isplitl [H03]; · iexact H03
      isplitl [H12]; · iexact H12
      isplitl [H4]; · iexact H4
      isplitl [H5]; · iexact H5
      isplitl [Hwb]; · iexact Hwb
      isplitl [Hp0]; · iexact Hp0
      isplitl [Hp1]; · iexact Hp1
      isplitl [Hp2]; · iexact Hp2
      isplitl [Hp3]; · iexact Hp3
      isplitl [Hp4]; · iexact Hp4
      isplitl [Hp5]; · iexact Hp5
      isplitl [Hp6] <;> iassumption
    isplitl [HzB]; · iexact HzB
    isplitl [HzS0 HzS1 HzS2 HzS3 HzS4 HzS5 HzS6 HzS7]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6] <;> iassumption
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [HzR6] <;> iassumption
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

end Parts

set_option maxRecDepth 4000 in
/-- What the pipeline gives the body at its one grid point. -/
def bodyPre (c : Dev nD) : sProp 𝕄 :=
  iprop(Φ₀ m ρ c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 4000 in
/-- The library's body obligation on core `c`. -/
theorem body_obligation (c : Dev nD) : Pipeline.BodyObligation (dats (F := F) m ρ 0 c) (defs₀ (F := F)) 𝒱₀ 0 Set.univ := fun t => by
  rw [fin_N0 t]
  rw [bigSep_W0, bigSep_W0]
  simp only [owns_whole_eq]
  show bodyPre m ρ c ⊢ WP c (cc0_body xM (Memref.isWhole_whole _) wM (Memref.isWhole_whole _) oM (Memref.isWhole_whole _) xbM (Memref.isWhole_whole _) wbM (Memref.isWhole_whole _) cmM (Memref.isWhole_whole _) cc0_scratch3 cc0_scratch4) (fun _ => bodyPost m ρ c)
  unfold bodyPre Φ₀ start Pipeline.Dat.owesAt Pipeline.owesWithin
  iintro ⟨⟨⟨⟨%K, HR, Hpl, Htk⟩, Harr, Hlev⟩, Hscr⟩, ⟨%W, -, HO⟩, ⟨%d0, %g0, %hg0, Hx⟩, ⟨%d1, %g1, %hg1, Hw⟩, ⟨%d2, %g2, %hg2, Ho⟩⟩
  rw [show (dats m ρ 0 c).owed t0_0.castSucc = owed c 10 from rfl]
  have hx : g0 = xstg m ρ c := by rw [hg0]; unfold Pipeline.Dat.before; rw [if_pos (fetch0_0 t0_0)]; rfl
  have hw : g1 = wstg m ρ c := by rw [hg1]; unfold Pipeline.Dat.before; rw [if_pos (fetch0_1 t0_0)]; rfl
  iapply (sound_body m ρ K c g0 g1 g2 W hx hw (fun _ => bodyPost m ρ c)) $$ HR Hlev Hpl Htk Harr Hscr HO Hx Hw Ho
  iintro H; iexact H

end Cert.RingMatmul

end
-- ==== Proof.Launch.lean ====
/-
# The launch: all devices from the counters at zero, and the run of the program
-/
module

public import proofs.«01_k».proof.Proof.Device
public import Idealize.ShloMosaic.Lib.Pipeline.CollectiveSegs

@[expose] public section

noncomputable section

namespace Cert.RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

open Idealize.ShloMosaic.TalkSites (Pay tallyL addL credOf)

/-! ## The cells and the tokens dealt at the launch -/

/-- The kernel's own semaphores: the eight send semaphores, then the eight receive semaphores. -/
def osem : Fin 8 ⊕ Fin 8 → SemLoc sig
  | .inl t => .dma (sendQ t)
  | .inr t => .dma (recvQ t)

/-- They are distinct from each other and from the pipeline's. -/
theorem ownSemFacts : Pipeline.OwnSemFacts cfg0.spec osem := by decide

/-- Every window is held at the full share. -/
theorem share_eq (c : Dev nD) (w : Fin cfg0.W) : (dats m ρ 0 c).share w = fullShare := by unfold Pipeline.Dat.share; split <;> rfl

/-- The seventeen semaphores of a device are distinct, -/
theorem csem_injective : Function.Injective csem := by decide

/-- and so are the cells of all devices. -/
theorem kcell_injective : Function.Injective kcell := fun a b h =>
  Prod.ext (congrArg (fun g : GSem nD τ sig => g.1.1) h) (csem_injective (congrArg Prod.snd h))
/-- All the ring's cells. -/
def ringCells : Finset (GSem nD τ sig) := Finset.univ.map ⟨kcell, kcell_injective⟩

/-- The duties of one device's cells, each as its cell's index and its name: both of the barrier, one of every other. -/
def dutyAt : Bool ⊕ (Fin 8 ⊕ Fin 8) → Fin 17 × Bool
  | .inl b => (0, b)
  | .inr (.inl t) => (sIx t, false)
  | .inr (.inr t) => (rIx t, false)
/-- Distinct duties are at distinct cells or have distinct names. -/
theorem dutyAt_injective : Function.Injective dutyAt := by decide

/-- The token of a device's duty. -/
def tokOf (cj : Dev nD × (Bool ⊕ (Fin 8 ⊕ Fin 8))) : GSem nD τ sig × ℕ × Bool := (kcell (cj.1, (dutyAt cj.2).1), 0, (dutyAt cj.2).2)
/-- Distinct duties have distinct tokens. -/
theorem tokOf_injective : Function.Injective tokOf := fun a b h => by
  have h1 : (a.1, (dutyAt a.2).1) = (b.1, (dutyAt b.2).1) := kcell_injective (congrArg Prod.fst h)
  exact Prod.ext (congrArg (fun x : Dev nD × Fin 17 => x.1) h1)
    (dutyAt_injective (Prod.ext (congrArg (fun x : Dev nD × Fin 17 => x.2) h1) (congrArg (fun x : GSem nD τ sig × ℕ × Bool => x.2.2) h)))
/-- All the ring's tokens. -/
def ringToks : Finset (GSem nD τ sig × ℕ × Bool) := Finset.univ.map ⟨tokOf, tokOf_injective⟩

/-- The resources at the launch: the pipeline's and the ring's, at their start. -/
def u₀ : UU :=
  (initOf (Pipeline.cells cfgs cellOf_inj) (Pipeline.launchToks cfgs cellOf_inj), initOf ringCells ringToks)

/-- The tokens of the duties at device `c`'s own cells. -/
def toks (c : Dev nD) : sProp 𝕄 :=
  iprop((dutyTok ER (barCell c) 0 true ∗ dutyTok ER (barCell c) 0 false)
    ∗ (bigSep Finset.univ fun t => dutyTok ER (sendCell c t) 0 false) ∗ bigSep Finset.univ fun t => dutyTok ER (recvCell c t) 0 false)

/-- What the launch deals device `c`, -/
def G (c : Dev nD) : sProp 𝕄 :=
  iprop((bigSep Finset.univ fun k => roundState ER (rd m ρ) (kcell (c, k)) 0)
    ∗ (bigSep Finset.univ fun k => iprop(atPos ER (kcell (c, k)) 0 ∅ 0 ∗ reached ER (kcell (c, k)) 0)) ∗ toks c)
/-- and what it holds once every cell is opened and the tokens have gone to the devices that pay with them. -/
def G' (c : Dev nD) : sProp 𝕄 := iprop(∃ K, records (F := F) m ρ K ∗ places c ∗ payToks c)

omit [FloatOps F] in
/-- `∗` may be read to the right. -/
theorem sep_right (P Q R : sProp 𝕄) : iprop((P ∗ Q) ∗ R) = iprop(P ∗ Q ∗ R) := BI.equiv_iff.mp ⟨BI.sep_assoc, BI.sep_assoc'⟩

omit [FloatOps F] in
/-- The seventeen cells: the barrier's, the send cells, the receive cells. -/
theorem bigSep_cells (Φ : Fin 17 → sProp 𝕄) :
    bigSep Finset.univ Φ = iprop(Φ 0 ∗ (bigSep Finset.univ fun t => Φ (sIx t)) ∗ bigSep Finset.univ fun t => Φ (rIx t)) := by
  rw [bigSep_fin8, bigSep_fin8, bigSep_univ_eq_bigSepL [0, 1, 2, 3, 4, 5, 6, 7, 8, 9, 10, 11, 12, 13, 14, 15, 16] (by decide) (by decide)]
  simp only [sep_right]
  rfl

omit [FloatOps F] in
/-- Two conjuncts, written out. -/
theorem bigSep_bool (Φ : Bool → sProp 𝕄) : bigSep Finset.univ Φ = iprop(Φ true ∗ Φ false) :=
  bigSep_univ_eq_bigSepL [true, false] (by decide) (by decide) Φ

omit [FloatOps F] in
/-- The cells of one device, whatever is said of each. -/
theorem bigSep_kcells (c : Dev nD) (Φ : GSem nD τ sig → sProp 𝕄) : (bigSep Finset.univ fun k => Φ (kcell (c, k)))
    = iprop(Φ (barCell c) ∗ (bigSep Finset.univ fun t => Φ (sendCell c t)) ∗ bigSep Finset.univ fun t => Φ (recvCell c t)) := by
  rw [bigSep_cells]
  simp only [kcell_send, kcell_recv, kcell_bar]

/-- The ring's resources at the start are each device's positions, records and tokens. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_sum, bigSep_bool]
    simp only [← kcell_send, ← kcell_recv]
    rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own counters at zero are the send and the receive counters at zero. -/
theorem ownSems0_eq (c : Dev nD) : (Pipeline.ownSems0 (Ix := ℕ) (Name := ℕ) (U := UU) (Lvl := ℕ) (Val := Elt F) (τ := τ) osem c : sProp 𝕄)
    = iprop((bigSep Finset.univ fun t => semVal (sendCell c t) 0) ∗ bigSep Finset.univ fun t => semVal (recvCell c t) 0) := by
  unfold Pipeline.ownSems0; rw [bigSep_univ_sum]; rfl
omit [FloatOps F] in
/-- The one counter that outlives the call is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- One device's counters at zero and its share of the launch open its cells. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  have hopen : iprop((bigSep Finset.univ fun k => semVal (kcell (c, k)) 0) ∗ bigSep Finset.univ fun k => roundState ER (rd m ρ) (kcell (c, k)) 0)
      ⊢ (|={Set.univ}=> bigSep Finset.univ fun k => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  rw [bigSep_kcells c (fun g => semVal g 0)] at hopen
  unfold G
  rw [ownSems0_eq, unscopedSems0_eq]
  iintro ⟨⟨HS, HV⟩, HB, Hst, Hat, Htok⟩
  imod hopen $$ [HS HV HB Hst] with Hinv
  · isplitr [Hst]
    · isplitl [HB]; · iexact HB
      isplitl [HS] <;> iassumption
    · iexact Hst
  imodintro
  isplitl [Hinv]; · iexact Hinv
  isplitl [Hat]; · iexact Hat
  iexact Htok

/-! ## The tokens go around the ring -/

/-- Copy `t` from device `c` lands on device `dstOf t c`: as a permutation of the pairs of a device and a copy. -/
def route : Dev nD × Fin 8 ≃ Dev nD × Fin 8 :=
  ⟨fun p => (dstOf p.2.val p.1, p.2), fun p => (srcOf p.2.val p.1, p.2), by unfold Function.LeftInverse; decide, by unfold Function.RightInverse Function.LeftInverse; decide⟩

omit [FloatOps F] in
/-- Every token goes to the device that pays the duty. -/
theorem toks_around : (bigSep Finset.univ fun c : Dev nD => (toks c : sProp 𝕄)) ⊢ bigSep Finset.univ fun c : Dev nD => payToks c := by
  have hr : (bigSep Finset.univ fun c : Dev nD => bigSep Finset.univ fun t : Fin 8 => (dutyTok ER (recvCell c t) 0 false : sProp 𝕄))
      = bigSep Finset.univ fun c : Dev nD => bigSep Finset.univ fun t : Fin 8 => dutyTok ER (recvCell (dstOf t.val c) t) 0 false := by
    rw [← bigSep_univ_prod (fun p : Dev nD × Fin 8 => (dutyTok ER (recvCell p.1 p.2) 0 false : sProp 𝕄)), bigSep_univ_equiv route,
      ← bigSep_univ_prod (fun p : Dev nD × Fin 8 => (dutyTok ER (recvCell (dstOf p.2.val p.1) p.2) 0 false : sProp 𝕄))]
    rfl
  unfold toks payToks payTok
  simp only [bigSep_sep']
  rw [hr, bigSep_univ_equiv ring.symm (fun c : Dev nD => (dutyTok ER (barCell c) 0 true : sProp 𝕄)),
    bigSep_univ_equiv ring (fun c : Dev nD => (dutyTok ER (barCell c) 0 false : sProp 𝕄))]
  iintro ⟨⟨H1, H2⟩, H3, H4⟩
  isplitl [H1]; · iexact H1
  isplitl [H2]; · iexact H2
  isplitl [H3] <;> iassumption

omit [FloatOps F] in
/-- The positions of a device's cells, barrier first. -/
theorem places_eq (c : Dev nD) : (bigSep Finset.univ fun k : Fin 17 => (atPos ER (kcell (c, k)) 0 ∅ 0 : sProp 𝕄)) = places c := by
  rw [bigSep_kcells c fun g => atPos ER g 0 ∅ 0]; rfl

/-- All devices' opened cells make one record, which every device keeps. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (rd m ρ) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄)),
    bigSep_congr (s := Finset.univ) (fun (c : Dev nD) _ => places_eq (F := F) c)]
  iintro ⟨HI, ⟨Hat, #HR⟩, Htok⟩
  ihave HK := (BI.bigSep_exists_pi Finset.univ (fun (ck : Dev nD × Fin 17) (κ : ℕ) => (cellInv ER (rd m ρ) κ (kcell ck) : sProp 𝕄))) $$ HI
  icases HK with ⟨%K, #HI⟩
  ihave Htk := (toks_around (F := F)) $$ Htok
  have hone (c : Dev nD) : iprop(records (F := F) m ρ K ∗ places c ∗ payToks c) ⊢ G' m ρ c := by
    unfold G'
    iintro H
    iexists K
    iexact H
  have hall : iprop(records (F := F) m ρ K ∗ (bigSep Finset.univ fun c : Dev nD => places c) ∗ bigSep Finset.univ fun c : Dev nD => payToks c)
      ⊢ bigSep Finset.univ (G' m ρ) := by
    rw [← bigSep_sep']
    refine (sep_mono_left (BI.bigSep_of_persistent (Finset.univ : Finset (Dev nD)) (records (F := F) m ρ K))).trans ?_
    rw [← bigSep_sep']
    exact bigSep_mono fun c _ => hone c
  iapply hall
  isplitr
  · unfold records; isplitl; · iexact HI
    iexact HR
  isplitl [Hat] <;> iassumption

/-- From the counters at zero and the ring's resources, every device gets what its body starts with. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits to wait with -/

/-- What device `c`'s predecessor pays into its cells, and what its successor pays. -/
def fromPrv (c : Dev nD) : List (Pay nD τ sig) :=
  [(recvCell c 5, 3, amt 5), (recvCell c 4, 3, amt 4), (recvCell c 1, 2, amt 1), (recvCell c 0, 2, amt 0), (barCell c, 1, 1)]
/-- What device `c`'s successor pays into its cells. -/
def fromNxt (c : Dev nD) : List (Pay nD τ sig) :=
  [(recvCell c 7, 3, amt 7), (recvCell c 6, 3, amt 6), (recvCell c 3, 2, amt 3), (recvCell c 2, 2, amt 2), (barCell c, 1, 1)]

/-- A device is paid by its two neighbours. -/
theorem paid_by (c : Dev nD) : tallyL (credOf dueL c) = tallyL (fromPrv c) + tallyL (fromNxt c) := by
  have h1 (c : Dev nD) (h : credOf dueL c = fromPrv c ++ fromNxt c) : tallyL (credOf dueL c) = tallyL (fromPrv c) + tallyL (fromNxt c) := by
    rw [h, TalkSites.tallyL_append]
  have h2 (c : Dev nD) (h : credOf dueL c = fromNxt c ++ fromPrv c) : tallyL (credOf dueL c) = tallyL (fromPrv c) + tallyL (fromNxt c) := by
    rw [h, TalkSites.tallyL_append, add_comm]
  fin_cases c
  · exact h2 _ rfl
  · exact h1 _ rfl
  · exact h1 _ rfl
  · exact h2 _ rfl

/-- A device's whole debt at the start. -/
def O₀ (c : Dev nD) : CellTallies nD τ sig ℕ := tallyL (dueL c)

/-- Before its first payment a device owes all of it. -/
theorem owed_all (c : Dev nD) : owed c 10 = O₀ c := by
  unfold O₀ owed
  rw [TalkSites.addL_eq, zero_add]
  rfl

omit [FloatOps F] in
/-- What is paid into a device's cells is the credit that its waits use. -/
theorem creds (c : Dev nD) : (Pipeline.launchCred O₀ c : sProp 𝕄) ⊢ arrivals c := by
  unfold O₀
  rw [TalkSites.launchCred_tallyL dueL (fun c x hx => by
    simp only [dueL, List.mem_cons, List.not_mem_nil, or_false] at hx
    rcases hx with rfl | rfl | rfl | rfl | rfl | rfl | rfl | rfl | rfl | rfl <;> rfl) c, paid_by]
  refine (cred_add _ _).1.trans ?_
  rw [TalkSites.cred_tallyL, TalkSites.cred_tallyL]
  unfold arrivals
  rw [bigSep_fin8]
  have hb : iprop(cred (tallyAt (barCell c) 1 1) ∗ cred (tallyAt (barCell c) 1 1)) ⊢ (cred (tallyAt (barCell c) 1 2) : sProp 𝕄) := by
    refine (cred_add _ _).2.trans (Entails.of_eq (congrArg _ (tallyAt_add _ _ 1 1)))
  refine (show _ ⊢ iprop((credR c 5 ∗ credR c 4 ∗ credR c 1 ∗ credR c 0 ∗ cred (tallyAt (barCell c) 1 1))
      ∗ (credR c 7 ∗ credR c 6 ∗ credR c 3 ∗ credR c 2 ∗ cred (tallyAt (barCell c) 1 1))) from Entails.of_eq rfl).trans ?_
  iintro ⟨⟨H5, H4, H1, H0, Ha⟩, H7, H6, H3, H2, Hb⟩
  isplitl [Ha Hb]
  · iapply hb; isplitl [Ha] <;> iassumption
  isplitl [H0]; · iexact H0
  isplitl [H1]; · iexact H1
  isplitl [H2]; · iexact H2
  isplitl [H3]; · iexact H3
  isplitl [H4]; · iexact H4
  isplitl [H5]; · iexact H5
  isplitl [H6] <;> iassumption

/-! ## The program's run -/

/-- The launch hands a device what its body starts from, -/
theorem start_intro (c : Dev nD) :
    iprop(Pipeline.unscopedRestP Pipeline.Prefetch.none cfg0.spec c (fun b => m ((c : Thread nD τ).loc b)) ∗ levAts Lk lvk
        ∗ Pipeline.launchCred O₀ c ∗ prngReg c (ρ c) ∗ G' m ρ c)
      ⊢ |={Set.univ}=> iprop(start m ρ c ∗ emp) := by
  unfold G'
  iintro ⟨-, Hlev, Hcr, -, HG⟩
  ihave Hc := (creds (F := F) c) $$ Hcr
  imodintro
  unfold start
  isplitl
  · isplitl [HG]; · iexact HG
    isplitl [Hc] <;> iassumption
  · iempintro

/-- which with the scratch buffers is the body's start, -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- and what the body leaves has every counter at zero. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ closed scratch zeroS zeroR
  iintro ⟨Hr, HB, HS, HV⟩
  isplitl [HB]; · iexact HB
  isplitl [HS HV]
  · isplitl [HS] <;> iassumption
  iexact Hr

/-- The pipeline may wait on its staging cells whatever the body still owes. -/
theorem waits (c : Dev nD) : (levAts Lk lvk : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 10 (by decide) (fun x hx => by
        simp only [dueL, List.take_succ_cons, List.take_nil, List.mem_cons, List.not_mem_nil, or_false] at hx
        rcases hx with rfl | rfl | rfl | rfl | rfl | rfl | rfl | rfl | rfl | rfl <;> first | exact Nat.succ_pos _)
    · exact mayWait c _ 0 0 (by decide) (fun x hx => absurd hx List.not_mem_nil)

/-- What a window's array holds after the run. -/
def finalA (c : Dev nD) (w : Fin cfg0.W) : Buf (Elt F) ((cfg0.win w).arr.view.loc (c : Thread nD τ)) := (dats m ρ 0 c).arrAt w cfg0.N

/-- Every window's array holds, on every device, what `finalA` says. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters, every weakly fair execution of the program on the four
    devices terminates, and at its end every window's array holds the stated contents and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := owed_all) (howedN := fun _ => rfl)
    (L := Lk) (lv := lvk) (hL := SiteBlocks.hL 4) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two arguments after the run hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
/-- The same of `w`. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.RingMatmul

end
-- ==== Proof.Value.lean ====
/-
# What the result holds, at exact arithmetic
-/
module

public import proofs.«01_k».proof.Proof.Launch
public import Idealize.ShloMosaic.Lib.MatmulPlain
public import Idealize.ShloMosaic.Lib.StackMember
public import Idealize.ShloMosaic.Lib.Layout

@[expose] public section

noncomputable section

namespace Cert.RingMatmul

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open scoped BigOperators

variable (m : (ℓ : Loc nD τ sig) → Buf (Elt Ideal) ℓ) (ρ : Dev nD → PrngReg)

/-! ## One product -/

/-- The rows of a block `A` times `W`, kept at zero or above: entry `(r, l)`. -/
def reluDot {n : ℕ} (A : (⟨2, ![n, 1024]⟩ : Shape).Idx → EReal) (W : S1024x256.Idx → EReal) (r : Fin n) (l : Fin 256) : EReal :=
  max (∑ k : Fin 1024, A (ix2 r k) * W (ix2 k l)) 0

/-- The kernel's product of `n` rows, then its maximum with zero, is `reluDot`. -/
theorem product {n : ℕ} (A : FVec Ideal ⟨2, ![n, 1024]⟩ .bf16) (W : FVec Ideal S1024x256 .bf16) (r : Fin n) (l : Fin 256) :
    maximumf (matmul (DotDims.plain n 1024 256) none A W (constant ⟨2, ![n, 256]⟩ .f32 0x00000000#32))
      (broadcast ⟨2, ![n, 256]⟩ (Scalar.ofBits .f32 0x00000000#32 : Ideal .f32)) (ix2 r l) = reluDot A W r l := by
  have hz : (Scalar.ofBits .f32 0x00000000#32 : Ideal .f32) = 0 := Ideal.ofBits_zero_f32
  have hd : matmul (DotDims.plain n 1024 256) none A W (constant ⟨2, ![n, 256]⟩ .f32 0x00000000#32) (ix2 r l) = ∑ k : Fin 1024, A (ix2 r k) * W (ix2 k l) := by
    refine (Ideal.matmul_plain_apply none A W _ r l).trans ?_
    show Ideal.ofBits .f32 0x00000000#32 + _ = _
    rw [Ideal.ofBits_zero_f32]
    exact zero_add (∑ k : Fin 1024, A (ix2 r k) * W (ix2 k l) : EReal)
  unfold reluDot
  show max (matmul (DotDims.plain n 1024 256) none A W (constant ⟨2, ![n, 256]⟩ .f32 0x00000000#32) (ix2 r l) : EReal) (Scalar.ofBits .f32 0x00000000#32 : Ideal .f32) = _
  rw [hd, hz]

/-! ## What each store holds -/

/-- The store of the own block's product. -/
theorem pay_own (A : FVec Ideal S256x1024 .bf16) (W : FVec Ideal S1024x256 .bf16) (r : Fin 256) (l : Fin 256) : (k0_pay3 (F := Ideal) A W (ix2 r l) : EReal) = reluDot A W r l :=
  product A W r l

/-- A landed piece of `n` rows as a matrix. -/
abbrev flat {n : ℕ} (A : (⟨3, ![1, n, 1024]⟩ : Shape).Idx → EReal) : (⟨2, ![n, 1024]⟩ : Shape).Idx → EReal := fun i => A (ix3 (0 : Fin 1) (i 0) (i 1))

/-- A change of shape to a matrix is `flat`. -/
theorem flat_cast {n : ℕ} (A : (⟨3, ![1, n, 1024]⟩ : Shape).Idx → EReal) (h : (⟨3, ![1, n, 1024]⟩ : Shape).ShapeCasts ⟨2, ![n, 1024]⟩) :
    shapeCast ⟨2, ![n, 1024]⟩ A h = flat A := by
  funext i
  rw [eq_ix2 i]
  exact shapeCast_1ab_ab_apply A h _ _

/-- The store of slot 0's product, -/
theorem pay_a (A : FVec Ideal S1x128x1024 .bf16) (W : FVec Ideal S1024x256 .bf16) (r : Fin 128) (l : Fin 256) : (k0_pay4 (F := Ideal) A W (ix2 r l) : EReal) = reluDot (flat A) W r l := by
  rw [← flat_cast A shapeCasts_S1x128x1024_S128x1024]; exact product _ W r l
/-- of slot 1's, -/
theorem pay_b (A : FVec Ideal S1x128x1024 .bf16) (W : FVec Ideal S1024x256 .bf16) (r : Fin 128) (l : Fin 256) :
    (k0_pay6 (F := Ideal) (k0_pay5 A W) (Scalar.ofBits .f32 0x00000000#32) (ix2 r l) : EReal) = reluDot (flat A) W r l := by
  rw [← flat_cast A shapeCasts_S1x128x1024_S128x1024]; exact product _ W r l
/-- of slot 3's, -/
theorem pay_c (A : FVec Ideal S1x128x1024 .bf16) (W : FVec Ideal S1024x256 .bf16) (r : Fin 128) (l : Fin 256) : (k0_pay7 (F := Ideal) A W (ix2 r l) : EReal) = reluDot (flat A) W r l := by
  rw [← flat_cast A shapeCasts_S1x128x1024_S128x1024]; exact product _ W r l
/-- of slot 2's, -/
theorem pay_d (A : FVec Ideal S1x128x1024 .bf16) (W : FVec Ideal S1024x256 .bf16) (r : Fin 128) (l : Fin 256) : (k0_pay8 (F := Ideal) A W (ix2 r l) : EReal) = reluDot (flat A) W r l := by
  rw [← flat_cast A shapeCasts_S1x128x1024_S128x1024]; exact product _ W r l
/-- of slot 4's first rows, -/
theorem pay_e (A : FVec Ideal S1x64x1024 .bf16) (W : FVec Ideal S1024x256 .bf16) (r : Fin 64) (l : Fin 256) : (k0_pay9 (F := Ideal) A W (ix2 r l) : EReal) = reluDot (flat A) W r l := by
  rw [← flat_cast A shapeCasts_S1x64x1024_S64x1024]; exact product _ W r l
/-- of slot 5's first rows, -/
theorem pay_f (A : FVec Ideal S1x64x1024 .bf16) (W : FVec Ideal S1024x256 .bf16) (r : Fin 64) (l : Fin 256) : (k0_pay10 (F := Ideal) A W (ix2 r l) : EReal) = reluDot (flat A) W r l := by
  rw [← flat_cast A shapeCasts_S1x64x1024_S64x1024]; exact product _ W r l
/-- of slot 4's last rows, -/
theorem pay_g (A : FVec Ideal S1x64x1024 .bf16) (W : FVec Ideal S1024x256 .bf16) (r : Fin 64) (l : Fin 256) : (k0_pay11 (F := Ideal) A W (ix2 r l) : EReal) = reluDot (flat A) W r l := by
  rw [← flat_cast A shapeCasts_S1x64x1024_S64x1024]; exact product _ W r l
/-- and of slot 5's last rows. -/
theorem pay_h (A : FVec Ideal S1x64x1024 .bf16) (W : FVec Ideal S1024x256 .bf16) (r : Fin 64) (l : Fin 256) : (k0_pay12 (F := Ideal) A W (ix2 r l) : EReal) = reluDot (flat A) W r l := by
  rw [← flat_cast A shapeCasts_S1x64x1024_S64x1024]; exact product _ W r l

/-! ## The rows that each store reads -/

/-- Device `c`'s block of `x`, as a matrix. -/
abbrev xv (c : Dev nD) : S256x1024.Idx → EReal := xstg m ρ c
/-- Device `c`'s block of `w`, as a matrix. -/
abbrev wv (c : Dev nD) : S1024x256.Idx → EReal := wstg m ρ c

/-- The rounding to bf16 changes nothing at exact arithmetic: the scratch blocks are the staged blocks. -/
theorem xbF_eq (c : Dev nD) : (xbF m ρ c : S256x1024.Idx → EReal) = xv m ρ c := by
  unfold xbF k0_pay1
  exact (shapeCast_self _ shapeCasts_S256x1024_S256x1024).trans (shapeCast_self (xstg m ρ c) shapeCasts_S256x1024_S256x1024)
/-- The same of `w`'s block. -/
theorem wbF_eq (c : Dev nD) : (wbF m ρ c : S1024x256.Idx → EReal) = wv m ρ c := by
  unfold wbF k0_pay2
  exact (shapeCast_self _ shapeCasts_S1024x256_S1024x256).trans (shapeCast_self (wstg m ρ c) shapeCasts_S1024x256_S1024x256)

/-- `n` rows read from row `r` of slot `k` are rows of the block of the device that the slot is filled from. -/
theorem read_slot (c : Dev nD) {n : ℕ} (k r : ℕ) (h) (hr : r + n ≤ 128) (i : Fin n) (j : Fin 1024) :
    flat (cmM.view.readAt (Elt Ideal) (Rect.unit (s := S6x128x1024) ![k, r, 0] ![1, n, 1024] h).toLoadRect (commF m ρ c)) (ix2 i j)
      = xv m ρ (slotDev c k) (ix2 ⟨128 * (k % 2) + r + i.val, by omega⟩ j) := by
  rw [← xbF_eq]
  show commF m ρ c ((Rect.unit (s := S6x128x1024) ![k, r, 0] ![1, n, 1024] h).emb (ix3 (0 : Fin 1) i j)) = _
  unfold commF
  have h0 : ((Rect.unit (s := S6x128x1024) ![k, r, 0] ![1, n, 1024] h).emb (ix3 (0 : Fin 1) i j) 0).val = k := by
    show k + 1 * 0 = k; omega
  have h1 : ((Rect.unit (s := S6x128x1024) ![k, r, 0] ![1, n, 1024] h).emb (ix3 (0 : Fin 1) i j) 1).val = r + i.val := by
    show r + 1 * i.val = r + i.val; omega
  have h2 : (Rect.unit (s := S6x128x1024) ![k, r, 0] ![1, n, 1024] h).emb (ix3 (0 : Fin 1) i j) 2 = j := by
    apply Fin.ext; show 0 + 1 * j.val = j.val; omega
  rw [h2]
  simp only [h0, h1]
  congr 2
  apply Fin.ext
  show 128 * (k % 2) + (r + i.val) = 128 * (k % 2) + r + i.val
  omega

/-! ## The whole result of one device -/

/-- The device whose block the row `a` of the gathered matrix is in. -/
def rowDev (a : Fin 1024) : Dev nD := ⟨a.val / 256, by have := a.isLt; show a.val / 256 < 4; omega⟩

/-- Entry `(a, l)` of device `c`'s result: row `a` of the blocks stacked in device order, times the device's columns. -/
def result (c : Dev nD) : S1024x256.Idx → EReal := fun y =>
  reluDot (xv m ρ (rowDev (y 0))) (wv m ρ c) ⟨(y 0).val % 256, Nat.mod_lt _ (by decide)⟩ (y 1)

/-- A store of `n` rows from row `256 d + r`, holding the products of rows of device `d`'s block from row `r`, agrees with
    the result. -/
theorem piece_agrees (c d : Dev nD) {n : ℕ} (r : ℕ) (hr : r + n ≤ 256) (o : Fin 2 → ℕ) (ho : o = ![256 * d.val + r, 0]) (h)
    (V : (⟨2, ![n, 256]⟩ : Shape).Idx → EReal)
    (hV : ∀ (i : Fin n) (l : Fin 256), V (ix2 i l)
      = max (∑ k : Fin 1024, xv m ρ d (ix2 ⟨r + i.val, by have := i.isLt; omega⟩ k) * wv m ρ c (ix2 k l) : EReal) 0) :
    ∀ x : (⟨2, ![n, 256]⟩ : Shape).Idx, V x = result m ρ c ((Rect.unit (s := S1024x256) o ![n, 256] h).emb x) := by
  subst ho
  intro x
  have hi : (x 0).val < n := (x 0).isLt
  have hd : d.val < 4 := d.isLt
  have e0 : ((Rect.unit (s := S1024x256) ![256 * d.val + r, 0] ![n, 256] h).emb x 0).val = 256 * d.val + r + (x 0).val := by
    show 256 * d.val + r + 1 * (x 0).val = _; omega
  have e1 : (Rect.unit (s := S1024x256) ![256 * d.val + r, 0] ![n, 256] h).emb x 1 = x 1 := by
    apply Fin.ext; show 0 + 1 * (x 1).val = (x 1).val; omega
  have hdev : rowDev ((Rect.unit (s := S1024x256) ![256 * d.val + r, 0] ![n, 256] h).emb x 0) = d := by
    apply Fin.ext
    show ((Rect.unit (s := S1024x256) ![256 * d.val + r, 0] ![n, 256] h).emb x 0).val / 256 = d.val
    rw [e0]; omega
  have hrow : (⟨((Rect.unit (s := S1024x256) ![256 * d.val + r, 0] ![n, 256] h).emb x 0).val % 256, Nat.mod_lt _ (by decide)⟩ : Fin 256)
      = ⟨r + (x 0).val, by omega⟩ := by
    apply Fin.ext
    show ((Rect.unit (s := S1024x256) ![256 * d.val + r, 0] ![n, 256] h).emb x 0).val % 256 = r + (x 0).val
    rw [e0]; omega
  unfold result reluDot
  rw [hdev, hrow, e1]
  have := hV (x 0) (x 1)
  exact (congrArg V (eq_ix2 x)).trans this

/-- The rows of a product, whatever they are read from. -/
theorem reluDot_rows {n : ℕ} (c d : Dev nD) (r : ℕ) (hr : r + n ≤ 256) (A : (⟨2, ![n, 1024]⟩ : Shape).Idx → EReal) (W : S1024x256.Idx → EReal)
    (hW : W = wv m ρ c) (hA : ∀ (i : Fin n) (j : Fin 1024), A (ix2 i j) = xv m ρ d (ix2 ⟨r + i.val, by have := i.isLt; omega⟩ j)) (i : Fin n) (l : Fin 256) :
    reluDot A W i l = max (∑ k : Fin 1024, xv m ρ d (ix2 ⟨r + i.val, by have := i.isLt; omega⟩ k) * wv m ρ c (ix2 k l) : EReal) 0 := by
  unfold reluDot
  subst hW
  congr 1
  exact Finset.sum_congr rfl fun k _ => by rw [hA]

/-- Store 1 agrees with the result. -/
theorem agree1 (c : Dev nD) : ∀ x : (p1 m ρ c).1.shape.Idx, (p1 m ρ c).2 x = result m ρ c ((p1 m ρ c).1.emb x) :=
  piece_agrees m ρ c c 0 (by decide) (k0_off1 c) (at1 c) (k0_off1_inb c) _ fun i l => (pay_own _ _ i l).trans
    (reluDot_rows m ρ c c 0 (by decide) _ _ (wbF_eq m ρ c) (fun i j => by rw [xbF_eq]; congr 2; exact Fin.ext (Nat.zero_add _).symm) i l)
/-- Store 2 agrees with the result. -/
theorem agree2 (c : Dev nD) : ∀ x : (p2 m ρ c).1.shape.Idx, (p2 m ρ c).2 x = result m ρ c ((p2 m ρ c).1.emb x) :=
  piece_agrees m ρ c (prv c) 0 (by decide) (k0_off2 c) (at2 c) (k0_off2_inb c) _ fun i l => (pay_a _ _ i l).trans
    (reluDot_rows m ρ c (prv c) 0 (by decide) _ _ (wbF_eq m ρ c) (read_slot m ρ c 0 0 _ (by decide)) i l)
/-- Store 3 agrees with the result. -/
theorem agree3 (c : Dev nD) : ∀ x : (p3 m ρ c).1.shape.Idx, (p3 m ρ c).2 x = result m ρ c ((p3 m ρ c).1.emb x) :=
  piece_agrees m ρ c (prv c) 128 (by decide) (k0_off3 c) (at3 c) (k0_off3_inb c) _ fun i l => (pay_b _ _ i l).trans
    (reluDot_rows m ρ c (prv c) 128 (by decide) _ _ (wbF_eq m ρ c) (read_slot m ρ c 1 0 _ (by decide)) i l)
/-- Store 4 agrees with the result. -/
theorem agree4 (c : Dev nD) : ∀ x : (p4 m ρ c).1.shape.Idx, (p4 m ρ c).2 x = result m ρ c ((p4 m ρ c).1.emb x) :=
  piece_agrees m ρ c (nxt c) 128 (by decide) (k0_off4 c) (at4 c) (k0_off4_inb c) _ fun i l => (pay_c _ _ i l).trans
    (reluDot_rows m ρ c (nxt c) 128 (by decide) _ _ (wbF_eq m ρ c) (read_slot m ρ c 3 0 _ (by decide)) i l)
/-- Store 5 agrees with the result. -/
theorem agree5 (c : Dev nD) : ∀ x : (p5 m ρ c).1.shape.Idx, (p5 m ρ c).2 x = result m ρ c ((p5 m ρ c).1.emb x) :=
  piece_agrees m ρ c (nxt c) 0 (by decide) (k0_off5 c) (at5 c) (k0_off5_inb c) _ fun i l => (pay_d _ _ i l).trans
    (reluDot_rows m ρ c (nxt c) 0 (by decide) _ _ (wbF_eq m ρ c) (read_slot m ρ c 2 0 _ (by decide)) i l)
/-- Store 6 agrees with the result. -/
theorem agree6 (c : Dev nD) : ∀ x : (p6 m ρ c).1.shape.Idx, (p6 m ρ c).2 x = result m ρ c ((p6 m ρ c).1.emb x) :=
  piece_agrees m ρ c (prv (prv c)) 0 (by decide) (k0_off6 c) (at6 c) (k0_off6_inb c) _ fun i l => (pay_e _ _ i l).trans
    (reluDot_rows m ρ c (prv (prv c)) 0 (by decide) _ _ (wbF_eq m ρ c) (read_slot m ρ c 4 0 _ (by decide)) i l)
/-- Store 7 agrees with the result. -/
theorem agree7 (c : Dev nD) : ∀ x : (p7 m ρ c).1.shape.Idx, (p7 m ρ c).2 x = result m ρ c ((p7 m ρ c).1.emb x) :=
  piece_agrees m ρ c (prv (prv c)) 128 (by decide) (k0_off7 c 128#32) (at7 c) (k0_off7_inb c 1) _ fun i l => (pay_f _ _ i l).trans
    (reluDot_rows m ρ c (prv (prv c)) 128 (by decide) _ _ (wbF_eq m ρ c) (read_slot m ρ c 5 0 _ (by decide)) i l)
/-- Store 8 agrees with the result. -/
theorem agree8 (c : Dev nD) : ∀ x : (p8 m ρ c).1.shape.Idx, (p8 m ρ c).2 x = result m ρ c ((p8 m ρ c).1.emb x) :=
  piece_agrees m ρ c (prv (prv c)) 64 (by decide) (k0_off7 c 64#32) (at8 c) (k0_off7_inb c 0) _ fun i l => (pay_g _ _ i l).trans
    (reluDot_rows m ρ c (prv (prv c)) 64 (by decide) _ _ (wbF_eq m ρ c) (read_slot m ρ c 4 64 _ (by decide)) i l)
/-- Store 9 agrees with the result. -/
theorem agree9 (c : Dev nD) : ∀ x : (p9 m ρ c).1.shape.Idx, (p9 m ρ c).2 x = result m ρ c ((p9 m ρ c).1.emb x) :=
  piece_agrees m ρ c (prv (prv c)) 192 (by decide) (k0_off8 c) (at9 c) (k0_off8_inb c) _ fun i l => (pay_h _ _ i l).trans
    (reluDot_rows m ρ c (prv (prv c)) 192 (by decide) _ _ (wbF_eq m ρ c) (read_slot m ρ c 5 64 _ (by decide)) i l)

/-- The result's staging buffer holds the result. -/
theorem outF_value (c : Dev nD) : outF m ρ c = result m ρ c := by
  have hall : ∀ p ∈ pieces m ρ c, ∀ x : p.1.shape.Idx, p.2 x = result m ρ c (p.1.emb x) := by
    intro p hp
    simp only [pieces, List.mem_cons, List.not_mem_nil, or_false] at hp
    rcases hp with rfl | rfl | rfl | rfl | rfl | rfl | rfl | rfl | rfl
    exacts [agree9 m ρ c, agree8 m ρ c, agree7 m ρ c, agree6 m ρ c, agree5 m ρ c, agree4 m ρ c, agree3 m ρ c, agree2 m ρ c, agree1 m ρ c]
  funext y
  have h := View.read_writes_apply_of_pieces (Val := Elt Ideal) (v := oM.view) (f := fun _ => (Scalar.ofBits .f32 0x00000000#32 : Ideal .f32))
    (result m ρ c) (pieces m ρ c) hall y (cover m ρ c y)
  unfold outF
  simpa only [Memref.view_whole, View.read_whole] using h

/-! ## From the staged blocks to the arrays -/

/-- The one block of a window is its whole array, so reading it gives the array. -/
theorem xstg_eq (c : Dev nD) : xv m ρ c = m ((c : Thread nD τ).loc main_arg0) := by
  have hz : (fun a => win0_0.index (0 : Fin 1) a * main_arg0.ty.shape.size a) = fun _ => 0 := funext fun a => by fin_cases a <;> decide
  exact Memref.read_access_unit_zero (Elt Ideal) main_arg0 hz (fun a => by fin_cases a <;> decide) _
/-- The same of `w`'s window. -/
theorem wstg_eq (c : Dev nD) : wv m ρ c = m ((c : Thread nD τ).loc main_arg1) := by
  have hz : (fun a => win0_1.index (0 : Fin 1) a * main_arg1.ty.shape.size a) = fun _ => 0 := funext fun a => by fin_cases a <;> decide
  exact Memref.read_access_unit_zero (Elt Ideal) main_arg1 hz (fun a => by fin_cases a <;> decide) _

/-- The result's window has no part outside its array: what is written back is the whole of its staging buffer. -/
theorem cut_whole (X : win0_2.block.Idx → EReal) : win0_2.cut (grid0.coords (0 : Fin 1)) X = X := rfl

/-- What the one grid point writes back is the body's result. -/
theorem flushed_eq (c : Dev nD) : (dats m ρ 0 c).flushed (2 : Fin 3) (0 : Fin 1) = outF m ρ c := cut_whole (outF m ρ c)

/-- After the run the result's array on device `c` holds the result. -/
theorem finalA_result (c : Dev nD) : finalA m ρ c (2 : Fin 3) = result m ρ c := by
  have h := (dats m ρ 0 c).read_blk_arrAt_eq_flushed (2 : Fin 3) (fun t t' _ _ ht => absurd (Subsingleton.elim (α := Fin 1) t t') ht)
    cfg0.N (0 : Fin 1) (Nat.succ_pos _) (flush0_2 _)
  have hz : (fun a => win0_2.index (0 : Fin 1) a * main_v1.ty.shape.size a) = fun _ => 0 := funext fun a => by fin_cases a <;> decide
  exact (Memref.read_access_unit_zero (Elt Ideal) main_v1 hz (fun a => by fin_cases a <;> decide) _).symm.trans
    (h.trans ((flushed_eq m ρ c).trans (outF_value m ρ c)))

end Cert.RingMatmul

end
-- ==== Proof.Claims.lean ====
/-
# The claims

The two frames of the kernel are read off its one run at any float values; the reference's is its list of operations'.
The reference's value is the maximum with zero of the whole product, and block `c` of its columns is device `c`'s result.
-/
module

public import proofs.«01_k».proof.Defs
public import proofs.«01_k».proof.Proof.Value
public import proofs.«01_k».proof.Proof.Gen.Kernel
public import proofs.«01_k».proof.Proof.Gen.ReferenceIdeal.Run
public import Idealize.ShloMosaic.Lib.StackMember

@[expose] public section

noncomputable section

namespace Cert.RingMatmul

open Cert.KernelIdeal Cert.KernelIdeal.Gen
open Idealize.ShloMosaic Idealize.ShloMosaic.TcCoe Idealize.ShloMosaic.ValueIdx Idealize.SL.Sem
open scoped BigOperators

/-! ## The frames -/

/-- For any float values the kernel terminates without a fault, leaves its arguments as they were and every counter at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono
    (fun _ h => ⟨fun c => ⟨(h.1 c (0 : Fin 3)).trans (finalA_x m ρ c), (h.1 c (1 : Fin 3)).trans (finalA_w m ρ c)⟩, h.2⟩)
    (run_main m ρ)

/-- So at exact arithmetic. -/
theorem frame_kernelIdeal : Cert.quiescent_KernelIdeal := fun m ρ _ => frame_any (F := Ideal) m ρ

/-- The kernel's body table and the idealized kernel's are the same, entry for entry. -/
theorem defs₀_same {F : FTy → Type} [FloatOps F] : Cert.Kernel.defs₀ (F := F) = Cert.KernelIdeal.defs₀ := by
  refine congrArg Defs.onTc ?_
  funext l a
  match l, a with
  | 0, (t, s) => rfl

/-- So are the tables with the call's region and pipeline. -/
theorem defs_same {F : FTy → Type} [FloatOps F] : Cert.Kernel.defs (F := F) = Cert.KernelIdeal.defs :=
  congrArg (Pipeline.defs Cert.KernelIdeal.pcfgs) defs₀_same

/-- So at machine floats: the two programs have the same text. -/
theorem frame_kernel : Cert.quiescent_Kernel := fun m ρ _ => by
  have h := frame_any (F := Bits) m ρ
  rw [← defs_same] at h
  exact h

/-- The reference terminates without a fault and leaves its arguments as they were; it has no counters. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-! ## The value -/

/-- The reference's result of `X` and `W`. -/
abbrev whole (X W : FVec Ideal Cert.ReferenceIdeal.S1024x1024 .f32) : FVec Ideal Cert.ReferenceIdeal.S1024x1024 .f32 :=
  maximumf (Host.dotGeneral Cert.ReferenceIdeal.dot_S1024x1024_S1024x1024_S1024x1024_1_0_0_1_n_n none X W)
    (broadcastInDim Cert.ReferenceIdeal.S1024x1024 ![] Cert.ReferenceIdeal.Gen.bcast_S_S1024x1024
      (constant Cert.ReferenceIdeal.S_ .f32 0x00000000#32))

/-- Its entry `(a, b)` is row `a` of `X` times column `b` of `W`, or zero if that is larger. -/
theorem whole_apply (X W : FVec Ideal Cert.ReferenceIdeal.S1024x1024 .f32) (a b : Fin 1024) :
    (whole X W (ix2 a b) : EReal) = max (∑ k : Fin 1024, (X (ix2 a k) * W (ix2 k b) : EReal)) 0 := by
  have hd := StackMember.dotGeneral_plain_apply (m := 1024) (n := 1024) (k := 1024) none X W a b
  show max (Host.dotGeneral (DotDims.plain 1024 1024 1024) none X W (ix2 a b) : EReal) (Ideal.ofBits .f32 0x00000000#32) = _
  rw [hd, Ideal.ofBits_zero_f32]

section Blocks

variable (m : (ℓ : Loc nD τ sig) → Buf (Elt Ideal) ℓ) (ρ : Dev nD → PrngReg)
variable (X W : (⟨2, ![1024, 1024]⟩ : Shape).Idx → EReal)

/-- If the devices hold `X` in blocks of rows, row `a % 256` of the block that row `a` is in is row `a` of `X`. -/
theorem xv_block (hX : ∀ c : Dev nD, m ((c : Thread nD τ).loc main_arg0) = Layout.block ⟨2, ![256, 1024]⟩ ⟨2, ![1024, 1024]⟩ 0 4 c X)
    (a k : Fin 1024) : xv m ρ (rowDev a) (ix2 ⟨a.val % 256, Nat.mod_lt _ (by decide)⟩ k) = X (ix2 a k) := by
  have h : xv m ρ (rowDev a) = Layout.block ⟨2, ![256, 1024]⟩ ⟨2, ![1024, 1024]⟩ 0 4 (rowDev a) X := by
    rw [← hX (rowDev a)]; exact xstg_eq m ρ (rowDev a)
  rw [h, Layout.block_apply]
  congr 1
  refine (eq_ix2 _).trans ?_
  congr 1 <;> apply Fin.ext
  · show (a.val / 256) * 256 + a.val % 256 = a.val; omega

/-- If the devices hold `W` in blocks of columns, column `l` of device `c`'s block is the column of `W` that it is cut from. -/
theorem wv_block (hW : ∀ c : Dev nD, m ((c : Thread nD τ).loc main_arg1) = Layout.block ⟨2, ![1024, 256]⟩ ⟨2, ![1024, 1024]⟩ 1 4 c W)
    (c : Dev nD) (k : Fin 1024) (l : Fin 256) (b : Fin 1024) (hb : b.val = c.val * 256 + l.val) : wv m ρ c (ix2 k l) = W (ix2 k b) := by
  have h : wv m ρ c = Layout.block ⟨2, ![1024, 256]⟩ ⟨2, ![1024, 1024]⟩ 1 4 c W := by
    rw [← hW c]; exact wstg_eq m ρ c
  rw [h, Layout.block_apply]
  congr 1
  refine (eq_ix2 _).trans ?_
  congr 1; apply Fin.ext
  exact hb.symm

/-- Device `c`'s result is block `c` of the columns of the reference's. -/
theorem result_block (hX : ∀ c : Dev nD, m ((c : Thread nD τ).loc main_arg0) = Layout.block ⟨2, ![256, 1024]⟩ ⟨2, ![1024, 1024]⟩ 0 4 c X)
    (hW : ∀ c : Dev nD, m ((c : Thread nD τ).loc main_arg1) = Layout.block ⟨2, ![1024, 256]⟩ ⟨2, ![1024, 1024]⟩ 1 4 c W) (c : Dev nD) :
    result m ρ c = Layout.block ⟨2, ![1024, 256]⟩ ⟨2, ![1024, 1024]⟩ 1 4 c (whole X W) := by
  funext y
  obtain ⟨a, l, rfl⟩ : ∃ (a : Fin 1024) (l : Fin 256), y = ix2 a l := ⟨y 0, y 1, eq_ix2 y⟩
  have hc : c.val < 4 := c.isLt
  have hl := l.isLt
  have hidx (h : Layout.Tiles ⟨2, ![1024, 256]⟩ ⟨2, ![1024, 1024]⟩ 1 4) : h.idx c (ix2 a l) = ix2 a ⟨c.val * 256 + l.val, by omega⟩ := by
    refine (eq_ix2 _).trans ?_
    rfl
  rw [Layout.block_apply, hidx]
  refine Eq.trans ?_ (whole_apply X W a ⟨c.val * 256 + l.val, by omega⟩).symm
  show max (∑ k : Fin 1024, xv m ρ (rowDev a) (ix2 ⟨a.val % 256, _⟩ k) * wv m ρ c (ix2 k l)) 0 = _
  congr 1
  exact Finset.sum_congr rfl fun k _ => by rw [xv_block m ρ X hX, wv_block m ρ W hW c k l ⟨c.val * 256 + l.val, by omega⟩ rfl]

end Blocks

/-- At exact arithmetic the kernel's result is the reference's, each device holding its block of columns. -/
theorem algebraic : Cert.algebraic_KernelIdeal_ReferenceIdeal := fun m ρ m' ρ' _ hin =>
  ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c (2 : Fin 3)).trans ((finalA_result m ρ c).trans (result_block m ρ _ _ (fun d => (hin d).1) (fun d => (hin d).2) c)),
        (h.1 c (0 : Fin 3)).trans (finalA_x m ρ c), (h.1 c (1 : Fin 3)).trans (finalA_w m ρ c)⟩)
      (run_main (F := Ideal) m ρ),
    (θ_run Cert.ReferenceIdeal.defs _ _).mono (fun _ h => h 0) (Cert.ReferenceIdeal.Value.run (F := Ideal) m' ρ')⟩

end Cert.RingMatmul

end
-- ==== Proof.lean ====
/-
The proof of `Cert.Claim` (Defs.lean): the witnesses of the programs' stated facts, then the claims in order, each
proved in Proof/Claims.lean. The protocol of the ring is written down at the head of Proof/Setup.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The claims: the three frames, the idealization (no rewrites), and the value at exact arithmetic. -/
theorem claim : Cert.Claim := ⟨Cert.Kernel.Gen.facts, Cert.KernelIdeal.Gen.facts, Cert.ReferenceIdeal.Gen.facts,
  Cert.RingMatmul.frame_kernel, Cert.RingMatmul.frame_kernelIdeal, Cert.RingMatmul.frame_reference, trivial,
  Cert.RingMatmul.algebraic⟩

end Cert.Proof

end
